-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S32x256 : Shape := ⟨2, ![32, 256]⟩
abbrev S_ : Shape := ⟨0, ![]⟩

abbrev nBuf : Space → Nat
  | .hbm => 2
  | .vmem => 5
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S32x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v100 : BitVec 32 := Scalar.muli v2 c32_i32
  let v101 : Index := Scalar.indexCast v100
  let c0_66 : Index := 0#32
  ![v101.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_72 : BitVec 32 := 32#32
  let v110 : BitVec 32 := Scalar.muli v2 c32_i32_72
  let c0_i32_75 : BitVec 32 := 0#32
  ![v110.toNat, 0]
def k0_off3 (d0 : Dev nD) (c6_i32_70 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v108 : BitVec 32 := Scalar.xori v2 c6_i32_70
  let c32_i32_71 : BitVec 32 := 32#32
  let v109 : BitVec 32 := Scalar.muli v108 c32_i32_71
  let c0_i32_76 : BitVec 32 := 0#32
  ![v109.toNat, 0]
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_70 : BitVec 32 := 6#32
  let v108 : BitVec 32 := Scalar.xori v2 c6_i32_70
  let c1_i32_73 : BitVec 32 := 1#32
  let v111 : BitVec 32 := Scalar.muli v108 c1_i32_73
  let v112 : BitVec 32 := Scalar.addi c0_i32_74 v111
  v112.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v115 : BitVec 32 := Scalar.xori v2 c5_i32_77
  let c1_i32_80 : BitVec 32 := 1#32
  let v118 : BitVec 32 := Scalar.muli v115 c1_i32_80
  let v119 : BitVec 32 := Scalar.addi c0_i32_81 v118
  v119.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_84 : BitVec 32 := 7#32
  let v122 : BitVec 32 := Scalar.xori v2 c7_i32_84
  let c1_i32_87 : BitVec 32 := 1#32
  let v125 : BitVec 32 := Scalar.muli v122 c1_i32_87
  let v126 : BitVec 32 := Scalar.addi c0_i32_88 v125
  v126.toNat
def k0_dev11 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_91 : BitVec 32 := 2#32
  let v129 : BitVec 32 := Scalar.xori v2 c2_i32_91
  let c1_i32_94 : BitVec 32 := 1#32
  let v132 : BitVec 32 := Scalar.muli v129 c1_i32_94
  let v133 : BitVec 32 := Scalar.addi c0_i32_95 v132
  v133.toNat
def k0_dev12 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_98 : BitVec 32 := 1#32
  let v136 : BitVec 32 := Scalar.xori v2 c1_i32_98
  let c1_i32_101 : BitVec 32 := 1#32
  let v139 : BitVec 32 := Scalar.muli v136 c1_i32_101
  let v140 : BitVec 32 := Scalar.addi c0_i32_102 v139
  v140.toNat
def k0_dev13 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v143 : BitVec 32 := Scalar.xori v2 c3_i32_105
  let c1_i32_108 : BitVec 32 := 1#32
  let v146 : BitVec 32 := Scalar.muli v143 c1_i32_108
  let v147 : BitVec 32 := Scalar.addi c0_i32_109 v146
  v147.toNat
def k0_dev14 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v150 : BitVec 32 := Scalar.xori v2 c4_i32_112
  let c1_i32_115 : BitVec 32 := 1#32
  let v153 : BitVec 32 := Scalar.muli v150 c1_i32_115
  let v154 : BitVec 32 := Scalar.addi c0_i32_116 v153
  v154.toNat
def k0_off4 (d0 : Dev nD) (c1_i32_133 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v172 : BitVec 32 := Scalar.xori v2 c1_i32_133
  let c32_i32_134 : BitVec 32 := 32#32
  let v173 : BitVec 32 := Scalar.muli v172 c32_i32_134
  let v174 : Index := Scalar.indexCast v173
  let c0_135 : Index := 0#32
  ![v174.toNat, 0]
def k0_dev15 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_172 : BitVec 32 := 6#32
  let v226 : BitVec 32 := Scalar.xori v2 c6_i32_172
  let c1_i32_174 : BitVec 32 := 1#32
  let v228 : BitVec 32 := Scalar.muli v226 c1_i32_174
  let v229 : BitVec 32 := Scalar.addi c0_i32_175 v228
  v229.toNat
def k0_dev16 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_177 : BitVec 32 := 5#32
  let v231 : BitVec 32 := Scalar.xori v2 c5_i32_177
  let c1_i32_179 : BitVec 32 := 1#32
  let v233 : BitVec 32 := Scalar.muli v231 c1_i32_179
  let v234 : BitVec 32 := Scalar.addi c0_i32_180 v233
  v234.toNat
def k0_dev17 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_182 : BitVec 32 := 7#32
  let v236 : BitVec 32 := Scalar.xori v2 c7_i32_182
  let c1_i32_184 : BitVec 32 := 1#32
  let v238 : BitVec 32 := Scalar.muli v236 c1_i32_184
  let v239 : BitVec 32 := Scalar.addi c0_i32_185 v238
  v239.toNat
def k0_dev18 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_187 : BitVec 32 := 2#32
  let v241 : BitVec 32 := Scalar.xori v2 c2_i32_187
  let c1_i32_189 : BitVec 32 := 1#32
  let v243 : BitVec 32 := Scalar.muli v241 c1_i32_189
  let v244 : BitVec 32 := Scalar.addi c0_i32_190 v243
  v244.toNat
def k0_dev19 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_192 : BitVec 32 := 1#32
  let v246 : BitVec 32 := Scalar.xori v2 c1_i32_192
  let c1_i32_194 : BitVec 32 := 1#32
  let v248 : BitVec 32 := Scalar.muli v246 c1_i32_194
  let v249 : BitVec 32 := Scalar.addi c0_i32_195 v248
  v249.toNat
def k0_dev20 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v251 : BitVec 32 := Scalar.xori v2 c3_i32_197
  let c1_i32_199 : BitVec 32 := 1#32
  let v253 : BitVec 32 := Scalar.muli v251 c1_i32_199
  let v254 : BitVec 32 := Scalar.addi c0_i32_200 v253
  v254.toNat
def k0_dev21 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_202 : BitVec 32 := 4#32
  let v256 : BitVec 32 := Scalar.xori v2 c4_i32_202
  let c1_i32_204 : BitVec 32 := 1#32
  let v258 : BitVec 32 := Scalar.muli v256 c1_i32_204
  let v259 : BitVec 32 := Scalar.addi c0_i32_205 v258
  v259.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S8x256x256 : Shape := ⟨3, ![8, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S8x256x256, .bf16⟩
  | .hbm, ⟨2, _⟩ => ⟨S8x256x256, .f32⟩
  | .hbm, ⟨3, _⟩ => ⟨S_, .f32⟩
  | .hbm, ⟨4, _⟩ => ⟨S256x256, .f32⟩
  | .hbm, ⟨5, _⟩ => ⟨S256x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Common.lean ====
/-
The all-reduce over eight devices, part one: the semaphore cells, the contents every buffer takes, and the schedule
of who pays which cell. Stated once over any interpretation of the float operations.

The kernel reduces and scatters first: device `c` sends the 32-row chunk `p` of its rows to every other device `p`,
which adds the eight chunks; then it gathers: every device sends its reduced chunk to all the others. An entry
handshake on the barrier semaphore comes before both.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pointwise.Index
public import Idealize.ShloMosaic.Lib.Transfers
public import Idealize.ShloMosaic.Lib.Ring
public import Idealize.ShloMosaic.Lib.Tactic

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: any memory, all counters at zero, any generator registers. -/
def s₀ : MemSt nD τ sig (Elt F) := ⟨m, fun _ => 0, ρ⟩

/-! ## The device tables -/

/-- The device whose number is `c`'s with the bits of `k` flipped. -/
def dx (c : Dev nD) (k : ℕ) : Dev nD := ⟨(c.val ^^^ k) % 8, Nat.mod_lt _ (by decide)⟩

/-- Every device but `c`. -/
def others (c : Dev nD) : Finset (Dev nD) := Finset.univ.erase c

/-- Which of the three receive cells of `c` takes the chunk from `s` (2 near, 3 mid, 4 far). -/
def rsK (c s : Dev nD) : Fin 7 :=
  let k := c.val ^^^ s.val
  if k = 6 then 4 else if k = 1 ∨ k = 3 ∨ k = 4 then 2 else 3

/-- The duties of cell `k` of device `c`: the devices that pay it (or, for the two send cells, that are sent to). -/
def dk (k : Fin 7) (c : Dev nD) : Finset (Dev nD) :=
  match k with
  | 0 => others c
  | 1 => others c
  | 2 => Finset.univ.filter fun s => s ≠ c ∧ rsK c s = 2
  | 3 => Finset.univ.filter fun s => s ≠ c ∧ rsK c s = 3
  | 4 => Finset.univ.filter fun s => s ≠ c ∧ rsK c s = 4
  | 5 => others c
  | 6 => others c

/-- How many they are. -/
def cnt (k : Fin 7) : ℕ := match k with | 0 => 7 | 1 => 7 | 2 => 3 | 3 => 3 | 4 => 1 | 5 => 7 | 6 => 7

theorem card_dk (k : Fin 7) (c : Dev nD) : (dk k c).card = cnt k := by revert k c; decide
theorem mem_dk_rsK (c s : Dev nD) (h : s ∈ others c) : s ∈ dk (rsK c s) c := by revert c s; decide
theorem mem_others_symm (c s : Dev nD) (h : s ∈ others c) : c ∈ others s := by revert c s; decide
theorem others_symm (c s : Dev nD) : s ∈ others c ↔ c ∈ others s := by revert c s; decide
theorem rsK_cases (c s : Dev nD) : rsK c s = 2 ∨ rsK c s = 3 ∨ rsK c s = 4 := by revert c s; decide

/-! ## The cells -/

abbrev barArr : Sems sig S_ := SemArray.scalar (sig.barrier 0 rfl)
abbrev barS : Sem sig := barArr.sem

/-- The kernel's own semaphores. -/
abbrev osem : Fin 6 → SemLoc sig := fun
  | 0 => .dma cc0_scratch3.sem | 1 => .dma cc0_scratch4.sem | 2 => .dma cc0_scratch5.sem
  | 3 => .dma cc0_scratch6.sem | 4 => .dma cc0_scratch7.sem | 5 => .dma cc0_scratch8.sem
/-- All seven of the protocol: barrier, scatter send, near, mid, far, gather send, gather receive. -/
abbrev csem : Fin 7 → SemLoc sig := fun
  | 0 => .reg barS
  | 1 => .dma cc0_scratch3.sem | 2 => .dma cc0_scratch4.sem | 3 => .dma cc0_scratch5.sem
  | 4 => .dma cc0_scratch6.sem | 5 => .dma cc0_scratch7.sem | 6 => .dma cc0_scratch8.sem
abbrev kcell (ck : Dev nD × Fin 7) : GSem nD τ sig := ((ck.1 : Thread nD τ), csem ck.2)

/-- The cell's number among the seven. -/
def kOf (s : SemLoc sig) : Option (Fin 7) := (List.finRange 7).find? fun k => decide (csem k = s)

theorem kOf_csem (k : Fin 7) : kOf (csem k) = some k := by revert k; decide
theorem csem_inj : Function.Injective csem := fun a b h => Option.some_inj.mp ((kOf_csem a).symm.trans (h ▸ kOf_csem b))
theorem kcell_inj : Function.Injective (kcell : Dev nD × Fin 7 → GSem nD τ sig) := fun a b h =>
  Prod.ext (congrArg (fun g : GSem nD τ sig => g.1.1) h) (csem_inj (congrArg (fun g : GSem nD τ sig => g.2) h))

/-! ## The chunks -/

theorem chunk_inb (d : Dev nD) : ∀ a, (![32 * d.val, 0] : Fin 2 → Nat) a + S32x256.size a ≤ S256x256.size a := by
  revert d; decide

/-- Rows `32 d` to `32 d + 31`. -/
abbrev chR (d : Dev nD) : Rect S256x256 := Rect.unit (s := S256x256) ![32 * d.val, 0] S32x256.size (chunk_inb d)
abbrev reg (d : Dev nD) : Finset S256x256.Idx := (chR d).set

theorem mem_reg (d : Dev nD) (i : S256x256.Idx) : i ∈ reg d ↔ (i 0).val / 32 = d.val := by
  rw [Rect.mem_set_unit]
  have h1 : (i 1).val < 256 := (i 1).isLt
  constructor
  · intro h
    have h0 := h 0
    have e1 : (![32 * d.val, 0] : Fin 2 → Nat) 0 = 32 * d.val := rfl
    have e2 : S32x256.size 0 = 32 := rfl
    rw [e1, e2] at h0
    omega
  · intro h a
    match a with
    | 0 => show 32 * d.val ≤ (i 0).val ∧ (i 0).val < 32 * d.val + 32; omega
    | 1 => show 0 ≤ (i 1).val ∧ (i 1).val < 0 + 256; omega

theorem reg_disjoint (d e : Dev nD) (h : d ≠ e) : Disjoint (reg d) (reg e) :=
  Finset.disjoint_left.mpr fun i hd he => h (Fin.ext (((mem_reg d i).mp hd).symm.trans ((mem_reg e i).mp he)))

/-- The device whose chunk holds row `i 0`. -/
def blkOf (i : S256x256.Idx) : Dev nD := ⟨(i 0).val / 32, by have : (i 0).val < 256 := (i 0).isLt; show _ < 8; omega⟩
theorem mem_reg_blkOf (i : S256x256.Idx) : i ∈ reg (blkOf i) := (mem_reg _ i).mpr rfl

/-- Row `32 d + r`, given as a place of chunk `d`. -/
def row (d : Dev nD) (r : Fin 32) : Fin 256 := ⟨32 * d.val + r.val, by have : d.val < 8 := d.isLt; omega⟩
/-- Place `j` of chunk `d`. -/
def pl (d : Dev nD) (j : S32x256.Idx) : S256x256.Idx := ix2 (row d (j 0)) (j 1)
theorem chR_emb (d : Dev nD) (j : S32x256.Idx) : (chR d).emb j = pl d j := by
  funext a
  apply Fin.ext
  match a with
  | 0 => show 32 * d.val + 1 * (j 0).val = 32 * d.val + (j 0).val; omega
  | 1 => show 0 + 1 * (j 1).val = (j 1).val; omega

/-- The place within its chunk. -/
def inn (i : S256x256.Idx) : S32x256.Idx := ix2 (⟨(i 0).val % 32, Nat.mod_lt _ (by decide)⟩ : Fin 32) (i 1)
theorem blkOf_pl (d : Dev nD) (j : S32x256.Idx) : blkOf (pl d j) = d := by
  have h : (j 0).val < 32 := (j 0).isLt
  apply Fin.ext; show (32 * d.val + (j 0).val) / 32 = d.val; omega
theorem inn_pl (d : Dev nD) (j : S32x256.Idx) : inn (pl d j) = j := by
  have h : (j 0).val < 32 := (j 0).isLt
  funext a
  apply Fin.ext
  match a with
  | 0 => show (32 * d.val + (j 0).val) % 32 = (j 0).val; omega
  | 1 => rfl
theorem pl_inn (i : S256x256.Idx) : pl (blkOf i) (inn i) = i := by
  funext a
  apply Fin.ext
  match a with
  | 0 => show 32 * ((i 0).val / 32) + (i 0).val % 32 = (i 0).val; omega
  | 1 => rfl

end Cert.AllReduce
-- ==== Proof.Sched.lean ====
/-
The all-reduce over eight devices, part two: the contents of the buffers and the schedule of the seven cells of each
device — who pays, how much, and what memory a payment hands over.
-/
module

public import proofs.«01_k».proof.Proof.Common

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

abbrev xM : Memref sig .tc .vmem S256x256 .bf16 := Memref.whole cc0_stg0_0
abbrev oM : Memref sig .tc .vmem S256x256 .bf16 := Memref.whole cc0_stg1_0
abbrev bM : Memref sig .tc .vmem S256x256 .bf16 := Memref.whole cc0_scratch0
abbrev rM : Memref sig .tc .vmem S256x256 .bf16 := Memref.whole cc0_scratch1
abbrev mM : Memref sig .tc .vmem S32x256 .bf16 := Memref.whole cc0_scratch2

/-- The credit of one chunk. -/
abbrev N : ℕ := (mM : Memref sig .tc .vmem S32x256 .bf16).view.dmaCredit
theorem N_pos : 0 < N := View.dmaCredit_pos _ (by decide)

/-! ## Contents -/

/-- Device `c`'s rows, as staged. -/
def xstg (c : Dev nD) : S256x256.Idx → Elt F .bf16 :=
  (win0_0.blk (0 : Fin 1)).view.read (Elt F) ((s₀ m ρ).mem ((c : Thread nD τ).loc main_arg0))

/-- The rows as the kernel keeps them for sending. -/
def XBF (c : Dev nD) : S256x256.Idx → Elt F .bf16 := k0_pay2 (F := F) (k0_pay1 (F := F) (xstg m ρ c))

/-- What `c`'s receive buffer ends with: in chunk `s`, device `s`'s chunk `c`. -/
def RSB (c : Dev nD) : S256x256.Idx → Elt F .bf16 := fun i => XBF m ρ (blkOf i) (pl c (inn i))

/-- Chunk `s` of a whole buffer's contents. -/
def part (s : Dev nD) (f : S256x256.Idx → Elt F .bf16) : S32x256.Idx → Elt F .bf16 := fun j => f (pl s j)

omit [FloatOps F] in
theorem part_apply (s : Dev nD) (f : S256x256.Idx → Elt F .bf16) (j : S32x256.Idx) : part s f j = f (pl s j) := rfl

theorem part_RSB (c s : Dev nD) : part s (RSB m ρ c) = part c (XBF m ρ s) := by
  funext j
  show XBF m ρ (blkOf (pl s j)) (pl c (inn (pl s j))) = _
  rw [blkOf_pl, inn_pl]; rfl

/-- The first four chunks added, then seven, then all eight: device `c`'s reduced chunk. -/
def acc1 (c : Dev nD) : S32x256.Idx → Elt F .bf16 :=
  k0_pay4 (F := F) (part c (RSB m ρ c)) (part (dx c 1) (RSB m ρ c)) (part (dx c 3) (RSB m ρ c))
def acc2 (c : Dev nD) : S32x256.Idx → Elt F .bf16 :=
  k0_pay5 (F := F) (acc1 m ρ c) (part (dx c 4) (RSB m ρ c)) (part (dx c 5) (RSB m ρ c)) (part (dx c 7) (RSB m ρ c))
    (part (dx c 2) (RSB m ρ c))
def MINE (c : Dev nD) : S32x256.Idx → Elt F .bf16 := k0_pay6 (F := F) (acc2 m ρ c) (part (dx c 6) (RSB m ρ c))

/-- The result on every device: chunk `d` is device `d`'s reduced chunk. -/
def OUTB : S256x256.Idx → Elt F .bf16 := fun i => MINE m ρ (blkOf i) (inn i)

theorem part_OUTB (c : Dev nD) : part c (OUTB m ρ) = MINE m ρ c := by
  funext j
  show MINE m ρ (blkOf (pl c j)) (inn (pl c j)) = _
  rw [blkOf_pl, inn_pl]

/-! ## The pieces of memory that change hands -/

/-- Elements of the three 256-row buffers, and of the reduced chunk, at a share. -/
def bP (c : Dev nD) (S : Finset S256x256.Idx) (f : S256x256.Idx → Elt F .bf16) : sProp 𝕄 :=
  ((c : Thread nD τ).loc cc0_scratch0) ↦[S]{fullShare} f
def rP (c : Dev nD) (S : Finset S256x256.Idx) (f : S256x256.Idx → Elt F .bf16) : sProp 𝕄 :=
  ((c : Thread nD τ).loc cc0_scratch1) ↦[S]{fullShare} f
def oP (c : Dev nD) (S : Finset S256x256.Idx) (f : S256x256.Idx → Elt F .bf16) : sProp 𝕄 :=
  ((c : Thread nD τ).loc cc0_stg1_0) ↦[S]{fullShare} f
def mP (c : Dev nD) (q : PosShare TreeShare) (f : S32x256.Idx → Elt F .bf16) : sProp 𝕄 :=
  ((c : Thread nD τ).loc cc0_scratch2) ↦{q} f

/-- The share of the reduced chunk that the transfer to `p` reads. -/
def qOf (p : Dev nD) : PosShare TreeShare := Transfers.dealOf fullShare (Finset.univ : Finset (Dev nD)) p

/-- What device `p`'s entry signal hands `c`: `p`'s places for `c`'s chunk, in the receive buffer and in the result. -/
def barPay (c p : Dev nD) : sProp 𝕄 := iprop((∃ f, rP p (reg c) f) ∗ (∃ f, oP p (reg c) f))

def pk (k : Fin 7) (c d : Dev nD) : sProp 𝕄 :=
  match k with
  | 0 => barPay c d
  | 1 => bP c (reg d) (XBF m ρ c)
  | 2 => rP c (reg d) (RSB m ρ c)
  | 3 => rP c (reg d) (RSB m ρ c)
  | 4 => rP c (reg d) (RSB m ρ c)
  | 5 => mP c (qOf d) (MINE m ρ c)
  | 6 => oP c (reg d) (OUTB m ρ)

theorem pk_rsK (c s d : Dev nD) : pk m ρ (rsK c s) c d = rP c (reg d) (RSB m ρ c) := by
  rcases rsK_cases c s with h | h | h <;> rw [h] <;> rfl

omit [FloatOps F] in
instance bP_storable (c : Dev nD) (S f) : BI.Storable (upEmb : UEmb _ 𝕄) (bP (F := F) c S f) := by unfold bP; infer_instance
omit [FloatOps F] in
instance rP_storable (c : Dev nD) (S f) : BI.Storable (upEmb : UEmb _ 𝕄) (rP (F := F) c S f) := by unfold rP; infer_instance
omit [FloatOps F] in
instance oP_storable (c : Dev nD) (S f) : BI.Storable (upEmb : UEmb _ 𝕄) (oP (F := F) c S f) := by unfold oP; infer_instance
omit [FloatOps F] in
instance mP_storable (c : Dev nD) (q f) : BI.Storable (upEmb : UEmb _ 𝕄) (mP (F := F) c q f) := by unfold mP; infer_instance
omit [FloatOps F] in
instance barPay_storable (c p : Dev nD) : BI.Storable (upEmb : UEmb _ 𝕄) (barPay (F := F) c p) := by unfold barPay; infer_instance
instance pk_storable (k : Fin 7) (c d : Dev nD) : BI.Storable (upEmb : UEmb _ 𝕄) (pk (F := F) m ρ k c d) := by
  match k with
  | 0 => exact barPay_storable c d
  | 1 => exact bP_storable _ _ _
  | 2 => exact rP_storable _ _ _
  | 3 => exact rP_storable _ _ _
  | 4 => exact rP_storable _ _ _
  | 5 => exact mP_storable _ _ _
  | 6 => exact oP_storable _ _ _

/-! ## The schedule -/

def dutiesOf (o : Option (Fin 7)) (c : Dev nD) : Finset (Dev nD) := match o with | some k => dk k c | none => ∅
def payOf (o : Option (Fin 7)) (c d : Dev nD) : sProp 𝕄 := match o with | some k => pk m ρ k c d | none => iprop(emp)
/-- One unit at a barrier cell, a chunk's credit at the others. -/
def amt (o : Option (Fin 7)) : ℕ := if o = some 0 then 1 else N
theorem amt_pos (o : Option (Fin 7)) : 0 < amt o := by
  unfold amt; split
  · exact Nat.one_pos
  · exact N_pos

/-- One round, round 0. -/
def sch : Rounds.Schedule (GSem nD τ sig) (Dev nD) 𝕄 where
  duties g r := if r = 0 ∧ g.1.2 = .tc then dutiesOf (kOf g.2) g.1.1 else ∅
  amount g _ _ := amt (kOf g.2)
  payload g _ d := payOf m ρ (kOf g.2) g.1.1 d
  amount_pos g _ _ _ := amt_pos _

instance sch_payload_storable (g : GSem nD τ sig) (r : ℕ) (d : Dev nD) :
    BI.Storable (upEmb : UEmb _ 𝕄) ((sch (F := F) m ρ).payload g r d) := by
  show BI.Storable upEmb (payOf m ρ (kOf g.2) g.1.1 d)
  rcases kOf g.2 with _ | k
  · show BI.Storable upEmb (iprop(emp) : sProp 𝕄); infer_instance
  · exact pk_storable m ρ k _ _

theorem duties_cell (c : Dev nD) (k : Fin 7) : (sch (F := F) m ρ).duties (kcell (c, k)) 0 = dk k c := by
  dsimp only [sch]
  rw [if_pos ⟨rfl, rfl⟩, kOf_csem]; rfl
theorem duties_later (g : GSem nD τ sig) : ∀ r, 1 ≤ r → (sch (F := F) m ρ).duties g r = ∅ :=
  fun r hr => if_neg fun h => by have := h.1; omega
theorem amount_cell (c : Dev nD) (k : Fin 7) (d : Dev nD) : (sch (F := F) m ρ).amount (kcell (c, k)) 0 d = amt (some k) := by
  show amt (kOf (csem k)) = _; rw [kOf_csem]
theorem payload_cell (c : Dev nD) (k : Fin 7) (d : Dev nD) : (sch (F := F) m ρ).payload (kcell (c, k)) 0 d = pk m ρ k c d := by
  show payOf m ρ (kOf (csem k)) c d = _; rw [kOf_csem]; rfl
theorem expect_cell (c : Dev nD) (k : Fin 7) : (sch (F := F) m ρ).expect (kcell (c, k)) 0 = cnt k * amt (some k) := by
  unfold Schedule.expect Schedule.amountOf
  rw [duties_cell, Finset.sum_congr rfl fun d _ => amount_cell m ρ c k d, Finset.sum_const, card_dk, smul_eq_mul]

theorem amt_bar : amt (some 0) = 1 := if_pos rfl
theorem amt_dma (k : Fin 7) (h : k ≠ 0) : amt (some k) = N := if_neg fun e => h (Option.some_inj.mp e)

/-! ## What each device owes; the levels -/

/-- Device `c` owes each device of `s` its entry signal; -/
def oSig (c : Dev nD) (s : Finset (Dev nD)) : CellTallies nD τ sig Unit := ∑ p ∈ s, tallyAt (kcell (p, 0)) () 1
/-- the chunk of the scatter; -/
def oRs (c : Dev nD) (s : Finset (Dev nD)) : CellTallies nD τ sig Unit := ∑ p ∈ s, tallyAt (kcell (p, rsK p c)) () N
/-- the chunk of the gather. -/
def oAg (c : Dev nD) (s : Finset (Dev nD)) : CellTallies nD τ sig Unit := ∑ p ∈ s, tallyAt (kcell (p, 6)) () N

def O₀ (c : Dev nD) : CellTallies nD τ sig Unit := oSig c (others c) + (oRs c (others c) + oAg c (others c))

def L (g : GSem nD τ sig) : Finset Unit := if g.1.2 = .tc then {()} else ∅
/-- The cells a device waits on are below all it then owes: the two send cells, then the barrier, the scatter's
    receive cells, the gather's. -/
def lk (o : Option (Fin 7)) : ℕ := match o with
  | some 0 => 1 | some 2 => 2 | some 3 => 2 | some 4 => 2 | some 6 => 3 | _ => 0
def lv (g : GSem nD τ sig) (_ : Unit) : ℕ := lk (kOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 7) (u : Unit) : lv (kcell (c, k)) u = lk (some k) := by
  show lk (kOf (csem k)) = _; rw [kOf_csem]

theorem sum_tally_pos {ι : Type} (s : Finset ι) (cell : ι → GSem nD τ sig) (n : ℕ) {g : GSem nD τ sig} {u : Unit}
    (h : 0 < (∑ p ∈ s, (tallyAt (cell p) () n : CellTallies nD τ sig Unit)) g u) : ∃ p ∈ s, g = cell p := by
  classical
  induction s using Finset.induction_on with
  | empty => rw [Finset.sum_empty] at h; exact absurd h (Nat.lt_irrefl 0)
  | insert a t ha ih =>
    rw [Finset.sum_insert ha, Pi.add_apply, Finsupp.add_apply, tallyAt_apply] at h
    by_cases hg : g = cell a ∧ u = ()
    · exact ⟨a, Finset.mem_insert_self _ _, hg.1⟩
    · rw [if_neg hg, Nat.zero_add] at h
      obtain ⟨p, hp, e⟩ := ih h
      exact ⟨p, Finset.mem_insert_of_mem hp, e⟩

/-- Every cell owed is a TensorCore's, of level above `b`. -/
def Above (b : ℕ) (O : CellTallies nD τ sig Unit) : Prop :=
  ∀ g u, 0 < O g u → ∃ (p : Dev nD) (k : Fin 7), g = kcell (p, k) ∧ b < lk (some k)

theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · rw [h0, Nat.zero_add] at hg; exact h' g u hg
  · exact h g u h0
theorem above_oSig (c : Dev nD) (s : Finset (Dev nD)) : Above 0 (oSig c s) := fun g u hg => by
  obtain ⟨p, _, e⟩ := sum_tally_pos s (fun p => kcell (p, 0)) 1 hg
  exact ⟨p, 0, e, by decide⟩
theorem above_oRs (c : Dev nD) (s : Finset (Dev nD)) : Above 1 (oRs c s) := fun g u hg => by
  obtain ⟨p, _, e⟩ := sum_tally_pos s (fun p => kcell (p, rsK p c)) N hg
  exact ⟨p, _, e, by rcases rsK_cases p c with h | h | h <;> rw [h] <;> decide⟩
theorem above_oAg (c : Dev nD) (s : Finset (Dev nD)) : Above 2 (oAg c s) := fun g u hg => by
  obtain ⟨p, _, e⟩ := sum_tally_pos s (fun p => kcell (p, 6)) N hg
  exact ⟨p, 6, e, by decide⟩
theorem Above.mono {b b' : ℕ} {O : CellTallies nD τ sig Unit} (h : Above b' O) (hb : b ≤ b') : Above b O := fun g u hg => by
  obtain ⟨p, k, e, hk⟩ := h g u hg
  exact ⟨p, k, e, lt_of_le_of_lt hb hk⟩
theorem above_O₀ (c : Dev nD) : Above 0 (O₀ c) :=
  (above_oSig c _).add (((above_oRs c _).mono (by decide)).add ((above_oAg c _).mono (by decide)))

omit [FloatOps F] in
/-- A wait on a cell of level at most `b`, owing only cells above it. -/
theorem mayWait_above (c : Dev nD) (sm : SemLoc sig) (b : ℕ) (hb : lk (kOf sm) ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨p, k, rfl, _⟩ := hO g u hg; exact Finset.mem_singleton_self _)
    (fun p hp => by rw [Finset.mem_singleton.mp hp]; exact hb)
    (fun g u hg => by obtain ⟨p, k, rfl, hk⟩ := hO g u hg; rw [lv_cell]; exact hk)

end Cert.AllReduce
-- ==== Proof.Steps.lean ====
/-
The all-reduce over eight devices, part three: one lemma for each kind of effect of the kernel's body on a semaphore —
an entry signal, a transfer of the scatter, a transfer of the gather, a wait on a receive or send cell — as a step of
a small state.
-/
module

public import proofs.«01_k».proof.Proof.Sched

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program run on device `c`'s TensorCore. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) : Q a ⊢ wpc c (.ret a) Q := by
  unfold wpc
  rw [wp_ret]
  exact fupd_intro
theorem wpc_bind (c : Dev nD) {α β : Type} (p : Prog (TpuEff nD τ sig (Elt F) Λ₀ .tc) α) (k : α → Prog (TpuEff nD τ sig (Elt F) Λ₀ .tc) β)
    (Q : β → sProp 𝕄) : wpc c p (fun a => wpc c (k a) Q) ⊢ wpc c (p >>= k) Q := by
  unfold wpc
  rw [wp_bind]

/-! ## Big separating conjunctions, in the proof mode's form -/

omit [FloatOps F] in
theorem sep_ins {s : Finset (Dev nD)} {p : Dev nD} (hp : p ∉ s) (Φ : Dev nD → sProp 𝕄) :
    bigSep (insert p s) Φ = iprop(Φ p ∗ bigSep s Φ) := BI.bigSep_insert hp
omit [FloatOps F] in
theorem sep_split {s t : Finset (Dev nD)} (h : t ⊆ s) (Φ : Dev nD → sProp 𝕄) :
    bigSep s Φ = iprop(bigSep t Φ ∗ bigSep (s \ t) Φ) := BI.bigSep_sdiff_split h
omit [FloatOps F] in
theorem sep_elim {I : Type} [DecidableEq I] {s : Finset I} {i : I} (h : i ∈ s) (Φ : I → sProp 𝕄) : bigSep s Φ ⊢ Φ i := bigSep_elim h

/-! ## What every device knows -/

/-- All the cells' invariants, under names `K`; that every cell has reached round 0; the levels. -/
def Recs (K : Dev nD × Fin 7 → ℕ) : sProp 𝕄 :=
  iprop((bigSep Finset.univ fun ck : Dev nD × Fin 7 => cellInv ER (sch m ρ) (K ck) (kcell ck))
    ∗ (bigSep Finset.univ fun ck : Dev nD × Fin 7 => reached ER (kcell ck) 0) ∗ levAts L lv)

instance Recs_persistent (K : Dev nD × Fin 7 → ℕ) : BI.Persistent (Recs m ρ K) := by unfold Recs; infer_instance

variable (K : Dev nD × Fin 7 → ℕ)

theorem Recs_inv (c : Dev nD) (k : Fin 7) : Recs m ρ K ⊢ cellInv ER (sch m ρ) (K (c, k)) (kcell (c, k)) := by
  unfold Recs
  iintro ⟨HI, -, -⟩
  iapply (sep_elim (Finset.mem_univ (c, k)) fun ck : Dev nD × Fin 7 => (cellInv ER (sch m ρ) (K ck) (kcell ck) : sProp 𝕄))
  iexact HI
theorem Recs_reached (c : Dev nD) (k : Fin 7) : Recs m ρ K ⊢ reached ER (kcell (c, k)) 0 := by
  unfold Recs
  iintro ⟨-, HR, -⟩
  iapply (sep_elim (Finset.mem_univ (c, k)) fun ck : Dev nD × Fin 7 => (reached ER (kcell ck) 0 : sProp 𝕄))
  iexact HR
theorem Recs_lev : Recs m ρ K ⊢ levAts L lv := by
  unfold Recs
  iintro ⟨-, -, HL⟩
  iexact HL

/-- What device `c` owes, whatever it has recorded of its waits. -/
def Ow (c : Dev nD) (O : CellTallies nD τ sig Unit) : sProp 𝕄 := iprop(∃ W, owes (c : Thread nD τ) O W)

/-! ## The entry signals -/

/-- What the signal to `p` needs: the duty's token, and `c`'s places for `p`'s chunk. -/
def sigRes (c p : Dev nD) : sProp 𝕄 :=
  iprop(dutyTok ER (kcell (p, 0)) 0 c ∗ (∃ f, rP c (reg p) f) ∗ (∃ f, oP c (reg p) f))

/-- The devices of `s` still to be signalled, the rest of what is owed being `R`. -/
def SGst (c : Dev nD) (s : Finset (Dev nD)) (R : CellTallies nD τ sig Unit) : sProp 𝕄 :=
  iprop(bigSep s (sigRes c) ∗ Ow c (oSig c s + R))

/-- The library's rule for a signal, at the barrier cell of `p`. -/
theorem signal_rule (c p : Dev nD) (hpo : p ∈ others c) (O : CellTallies nD τ sig Unit) (W : Waits sig Unit)
    {α : Type} {Q : α → sProp 𝕄} {k : PUnit → Prog (TpuEff nD τ sig (Elt F) Λ₀ .tc) α} :
    iprop(cellInv ER (sch m ρ) (K (p, 0)) (kcell (p, 0)) ∗ owes (c : Thread nD τ) (O + tallyAt (kcell (p, 0)) () 1) W
        ∗ dutyTok ER (kcell (p, 0)) 0 c ∗ barPay p c ∗ reached ER (kcell (p, 0)) 0)
      ⊢ iprop((owes (c : Thread nD τ) O W -∗ wpc c (k ⟨⟩) Q)
          -∗ wpc c (.op (.semSignal (p : Thread nD τ) barS (1#32).toInt) k) Q) := by
  rw [show (barPay p c : sProp 𝕄) = (sch m ρ).payload (kcell (p, 0)) 0 c from (payload_cell m ρ p 0 c).symm]
  exact Rounds.wp_signal 𝒱₀ ER (sch m ρ) (c : Thread nD τ) none (dst := (p : Thread nD τ)) (sem := barS) (κ := K (p, 0)) (d := c) (r := 0)
    (k' := 1) (k := k) (Q := Q) (by rw [duties_cell m ρ p 0]; exact mem_others_symm c p hpo)
    ((amount_cell m ρ p 0 c).trans amt_bar) () O rfl (W := W) (Es := Set.univ)

theorem oSig_insert (c p : Dev nD) (s : Finset (Dev nD)) (hp : p ∉ s) (R : CellTallies nD τ sig Unit) :
    oSig c (insert p s) + R = (oSig c s + R) + tallyAt (kcell (p, 0)) () 1 := by
  unfold oSig; rw [Finset.sum_insert hp, add_assoc, add_comm]
theorem oRs_insert (c p : Dev nD) (s : Finset (Dev nD)) (hp : p ∉ s) (R : CellTallies nD τ sig Unit) :
    oRs c (insert p s) + R = (oRs c s + R) + tallyAt (kcell (p, rsK p c)) () N := by
  unfold oRs; rw [Finset.sum_insert hp, add_assoc, add_comm]
theorem oAg_insert (c p : Dev nD) (s : Finset (Dev nD)) (hp : p ∉ s) :
    oAg c (insert p s) = oAg c s + tallyAt (kcell (p, 6)) () N := by
  unfold oAg; rw [Finset.sum_insert hp, add_comm]

theorem sig_step (c p : Dev nD) (s s' : Finset (Dev nD)) (R : CellTallies nD τ sig Unit) (hs : s = insert p s') (hp : p ∉ s')
    (hpo : p ∈ others c) (n : Dev nD) (hn : n = p) {α : Type} {Q : α → sProp 𝕄} {k : PUnit → Prog (TpuEff nD τ sig (Elt F) Λ₀ .tc) α} :
    iprop(Recs m ρ K ∗ SGst c s R)
      ⊢ iprop((SGst c s' R -∗ wpc c (k ⟨⟩) Q)
          -∗ wpc c (.op (.semSignal (n : Thread nD τ) barS (1#32).toInt) k) Q) := by
  subst hn hs
  unfold SGst Ow
  rw [sep_ins hp, oSig_insert c n s' hp R]
  unfold sigRes
  iintro ⟨#HR, ⟨⟨Ht, Hr, Ho⟩, Hs⟩, ⟨%W, HO⟩⟩ Hk
  iapply (signal_rule m ρ K c n hpo (oSig c s' + R) W) $$ [HO Ht Hr Ho]
  · isplitr; · iapply (Recs_inv m ρ K n 0); iexact HR
    isplitl [HO]; · iexact HO
    isplitl [Ht]; · iexact Ht
    isplitl [Hr Ho]
    · unfold barPay
      isplitl [Hr] <;> iassumption
    iapply (Recs_reached m ρ K n 0); iexact HR
  iintro HO
  iapply Hk
  isplitl [Hs]; · iexact Hs
  iexists W; iexact HO

/-! ## The waits -/

/-- Device `c` has taken `j` of the `cnt k` amounts of its cell `k` and holds the credit for the others, with the
    payments that have been handed over so far. -/
def Wst (c : Dev nD) (k : Fin 7) (j : ℕ) : sProp 𝕄 :=
  iprop(∃ T, ⌜T ⊆ dk k c⌝ ∗ atPos ER (kcell (c, k)) 0 T (j * N) ∗ bigSep T (pk m ρ k c)
    ∗ cred (tallyAt (kcell (c, k)) () ((cnt k - j) * N)))
/-- All taken: the cell is past its round, every payment in hand. -/
def Wdone (c : Dev nD) (k : Fin 7) : sProp 𝕄 :=
  iprop(atPos ER (kcell (c, k)) 1 ∅ 0 ∗ bigSep (dk k c) (pk m ρ k c))

theorem wait_last_rule (c : Dev nD) (k : Fin 7) (T : Finset (Dev nD)) (hT : T ⊆ dk k c) (a k' : ℕ) (ha : a + k' = cnt k * amt (some k))
    (O : CellTallies nD τ sig Unit) (hO : Above (lk (some k)) O ∨ O = 0)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem k) k' X)
    {α : Type} {Q : α → sProp 𝕄} {kk : PUnit → Prog (TpuEff nD τ sig (Elt F) Λ₀ .tc) α} :
    iprop(Recs m ρ K ∗ Ow c O ∗ atPos ER (kcell (c, k)) 0 T a ∗ bigSep T (pk m ρ k c) ∗ cred (tallyAt (kcell (c, k)) () k'))
      ⊢ iprop(((Ow c O ∗ Wdone m ρ c k) -∗ wpc c (kk ⟨⟩) Q) -∗ wpc c (.op w kk) Q) := by
  unfold Ow
  iintro ⟨#HR, ⟨%W, HO⟩, Hat, HT, Hc⟩ Hk
  have h := Rounds.wp_wait_rest_token 𝒱₀ ER (sch m ρ) (c : Thread nD τ) none (κ := K (c, k)) (sm := csem k) (k := kk) (Q := Q) hw (Set.mem_univ _) ()
    (O := O) (W := W) (R := 0) (m := a) (T := T) (by rw [ha]; exact (expect_cell m ρ c k).symm)
  have hmw : (levAts L lv : sProp 𝕄) ⊢ MayWait (c : Thread nD τ) (csem k) () O := by
    rcases hO with hO | rfl
    · exact mayWait_above c (csem k) _ (by rw [kOf_csem]) O hO
    · rw [MayWait_zero]; iintro -; iempintro
  rw [duties_cell m ρ c k, show (fun d => (sch m ρ).payload (kcell (c, k)) 0 d) = pk m ρ k c from funext fun d => payload_cell m ρ c k d] at h
  iapply h $$ [HO Hat Hc]
  · isplitr; · iapply (Recs_inv m ρ K c k); iexact HR
    isplitl [Hc]; · iexact Hc
    isplitl [HO]; · iexact HO
    isplitr
    · iapply hmw
      iapply (Recs_lev m ρ K); iexact HR
    iexact Hat
  iintro ⟨HO, Hat, -, HP⟩
  iapply Hk
  isplitl [HO]; · iexists _; iexact HO
  unfold Wdone
  isplitl [Hat]; · iexact Hat
  rw [sep_split hT]
  isplitl [HT] <;> iassumption

theorem wait_last (c : Dev nD) (k : Fin 7) (hk : k ≠ 0) (j : ℕ) (hj : j + 1 = cnt k)
    (O : CellTallies nD τ sig Unit) (hO : Above (lk (some k)) O ∨ O = 0)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem k) N X)
    {α : Type} {Q : α → sProp 𝕄} {kk : PUnit → Prog (TpuEff nD τ sig (Elt F) Λ₀ .tc) α} :
    iprop(Recs m ρ K ∗ Ow c O ∗ Wst m ρ c k j)
      ⊢ iprop(((Ow c O ∗ Wdone m ρ c k) -∗ wpc c (kk ⟨⟩) Q) -∗ wpc c (.op w kk) Q) := by
  unfold Wst
  rw [show (cnt k - j) * N = N by rw [← hj, Nat.add_sub_cancel_left, Nat.one_mul]]
  iintro ⟨#HR, HO, ⟨%T, %hT, Hat, HT, Hc⟩⟩
  iapply (wait_last_rule m ρ K c k T hT (j * N) N (by rw [amt_dma k hk, ← hj, Nat.succ_mul]) O hO hw)
  isplitr; · iexact HR
  isplitl [HO]; · iexact HO
  isplitl [Hat]; · iexact Hat
  isplitl [HT] <;> iassumption

theorem wait_step (c : Dev nD) (k : Fin 7) (hk : k ≠ 0) (j : ℕ) (hj : j + 1 ≤ cnt k)
    (O : CellTallies nD τ sig Unit) (hO : Above (lk (some k)) O ∨ O = 0)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem k) N X)
    {α : Type} {Q : α → sProp 𝕄} {kk : PUnit → Prog (TpuEff nD τ sig (Elt F) Λ₀ .tc) α} :
    iprop(Recs m ρ K ∗ Ow c O ∗ Wst m ρ c k j)
      ⊢ iprop(((Ow c O ∗ Wst m ρ c k (j + 1)) -∗ wpc c (kk ⟨⟩) Q) -∗ wpc c (.op w kk) Q) := by
  unfold Wst Ow
  rw [show (cnt k - j) * N = N + (cnt k - (j + 1)) * N by
    rw [show cnt k - j = (cnt k - (j + 1)) + 1 by omega, Nat.succ_mul, Nat.add_comm], ← tallyAt_add]
  iintro ⟨#HR, ⟨%W, HO⟩, ⟨%T, %hT, Hat, HT, Hc⟩⟩ Hk
  ihave Hc' := (cred_add _ _).1 $$ Hc
  icases Hc' with ⟨Hc, Hc'⟩
  have h := Rounds.wp_wait 𝒱₀ ER (sch m ρ) (c : Thread nD τ) none (κ := K (c, k)) (sm := csem k) (k := kk) (Q := Q) hw (Set.mem_univ _)
    (cr := Finsupp.single () N) (O := O) (W := W) (R := 0) (m := j * N) (T := T) {(csem k, ())} (by rw [Util.total_single])
    (image_single_subset (csem k) () N)
  have hmw : (levAts L lv : sProp 𝕄) ⊢ MayWait (c : Thread nD τ) (csem k) () O := by
    rcases hO with hO | rfl
    · exact mayWait_above c (csem k) _ (by rw [kOf_csem]) O hO
    · rw [MayWait_zero]; iintro -; iempintro
  rw [duties_cell m ρ c k, show (fun d => (sch m ρ).payload (kcell (c, k)) 0 d) = pk m ρ k c from funext fun d => payload_cell m ρ c k d] at h
  iapply h $$ [HO Hat Hc]
  · isplitr; · iapply (Recs_inv m ρ K c k); iexact HR
    isplitl [Hc]; · iexact Hc
    isplitl [HO]; · iexact HO
    isplitr
    · iapply hmw
      iapply (Recs_lev m ρ K); iexact HR
    iexact Hat
  iintro %S ⟨%hS, HO, Hat, HP⟩
  iapply Hk
  isplitl [HO]; · iexists _; iexact HO
  iexists S
  isplitr; · ipureintro; exact hS.2.1
  rw [sep_split hS.1, Nat.succ_mul]
  isplitl [Hat]; · iexact Hat
  isplitl [HT HP]
  · isplitl [HT] <;> iassumption
  iexact Hc'

/-! ## What a transfer leaves -/

/-- A chunk of a buffer, as the kernel's slices name it. -/
abbrev bS (d : Dev nD) : Memref sig .tc .vmem S32x256 .bf16 := bM.slice (chR d) (fun _ => rfl)
abbrev rS (d : Dev nD) : Memref sig .tc .vmem S32x256 .bf16 := rM.slice (chR d) (fun _ => rfl)
abbrev oS (d : Dev nD) : Memref sig .tc .vmem S32x256 .bf16 := oM.slice (chR d) (fun _ => rfl)

omit [FloatOps F] in
theorem read_bS (d : Dev nD) (f : S256x256.Idx → Elt F .bf16) : (bS d).view.read (Elt F) f = part d f := by
  funext j
  show f ((chR d).emb j) = f (pl d j)
  rw [chR_emb]

omit [FloatOps F] in
/-- Contents agreeing on a chunk, read through the chunk. -/
theorem eq_on_reg (d : Dev nD) (f g : S256x256.Idx → Elt F .bf16) (h : ∀ j, f (pl d j) = part d g j) : ∀ i ∈ reg d, f i = g i := by
  intro i hi
  have e : blkOf i = d := Fin.ext ((mem_reg d i).mp hi)
  have e' : pl d (inn i) = i := by rw [← e]; exact pl_inn i
  rw [← e']; exact h (inn i)

omit [FloatOps F] in
theorem rS_write (c : Dev nD) (d : Dev nD) (f g : S256x256.Idx → Elt F .bf16) (w : S32x256.Idx → Elt F .bf16) (hw : w = part d g) :
    (rP c (reg d) ((rS d).view.write (Elt F) f w Finset.univ) : sProp 𝕄) = rP c (reg d) g := by
  unfold rP
  refine pointsTo_congr (eq_on_reg d _ g fun j => ?_)
  rw [← hw, ← chR_emb]
  exact View.write_emb_of_mem (v := (rS d).view) f w (Finset.mem_univ j)
omit [FloatOps F] in
theorem oS_write (c : Dev nD) (d : Dev nD) (f g : S256x256.Idx → Elt F .bf16) (w : S32x256.Idx → Elt F .bf16) (hw : w = part d g) :
    (oP c (reg d) ((oS d).view.write (Elt F) f w Finset.univ) : sProp 𝕄) = oP c (reg d) g := by
  unfold oP
  refine pointsTo_congr (eq_on_reg d _ g fun j => ?_)
  rw [← hw, ← chR_emb]
  exact View.write_emb_of_mem (v := (oS d).view) f w (Finset.mem_univ j)

theorem set_bS (d : Dev nD) : (bS d).view.set = reg d := View.set_slice_whole _ _
theorem set_rS (d : Dev nD) : (rS d).view.set = reg d := View.set_slice_whole _ _
theorem set_oS (d : Dev nD) : (oS d).view.set = reg d := View.set_slice_whole _ _

/-! ## The scatter -/

/-- What the transfer to `p` needs. -/
def rsRes (c p : Dev nD) : sProp 𝕄 :=
  iprop(dutyTok ER (kcell (c, 1)) 0 p ∗ dutyTok ER (kcell (p, rsK p c)) 0 c ∗ (∃ f, rP p (reg c) f) ∗ bP c (reg p) (XBF m ρ c))

/-- The devices of `s` still to be sent to, `j` already sent to. -/
def RSst (c : Dev nD) (s : Finset (Dev nD)) (R : CellTallies nD τ sig Unit) (j : ℕ) : sProp 𝕄 :=
  iprop(bigSep s (rsRes m ρ c) ∗ Ow c (oRs c s + R) ∗ cred (tallyAt (kcell (c, 1)) () (j * N)))

theorem rs_rule (c p : Dev nD) (hpo : p ∈ others c) (O : CellTallies nD τ sig Unit) (W : Waits sig Unit) (fd : S256x256.Idx → Elt F .bf16)
    (sem : SemLoc sig) (hsm : sem = csem (rsK p c))
    {hsc : (rS c : Memref sig (Dev.tc p : Thread nD τ).2.kind .vmem S32x256 .bf16).view.ref.isScScratch = false}
    {hsrc : (bS p).view.WordExact} {hdst : (rS c).view.WordExact}
    {hsem : DmaTarget.Typed .vmem sem (.remote (Dev.tc p : Thread nD τ) (rS c) (csem 1) hsc)}
    {α : Type} {Q : α → sProp 𝕄} {k : PUnit → Prog (TpuEff nD τ sig (Elt F) Λ₀ .tc) α} :
    iprop(cellInv ER (sch m ρ) (K (c, 1)) (kcell (c, 1)) ∗ cellInv ER (sch m ρ) (K (p, rsK p c)) (kcell (p, rsK p c))
        ∗ bP c (reg p) (XBF m ρ c) ∗ rP p (reg c) fd
        ∗ owes (c : Thread nD τ) (O + tallyAt (kcell (p, rsK p c)) () N) W
        ∗ dutyTok ER (kcell (c, 1)) 0 p ∗ reached ER (kcell (c, 1)) 0
        ∗ dutyTok ER (kcell (p, rsK p c)) 0 c ∗ reached ER (kcell (p, rsK p c)) 0)
      ⊢ iprop(((cred (tallyAt (kcell (c, 1)) () N) ∗ owes (c : Thread nD τ) O W) -∗ wpc c (k ⟨⟩) Q)
          -∗ wpc c (.op (.enqueueDma (bS p) (.remote (Dev.tc p : Thread nD τ) (rS c) (csem 1) hsc) sem hsrc hdst hsem) k) Q) := by
  subst hsm
  have hp1 : ((bS p).view.loc (c : Thread nD τ) ↦[(bS p).view.set]{fullShare} XBF m ρ c : sProp 𝕄) ⊢ (sch m ρ).payload (kcell (c, 1)) 0 p := by
    rw [payload_cell m ρ c 1 p, set_bS]
    exact BI.Entails.refl _
  have hp2 : ((rS c).view.loc (p : Thread nD τ) ↦[(rS c).view.set]{fullShare}
      ((rS c).view.write (Elt F) fd ((bS p).view.read (Elt F) (XBF m ρ c)) Finset.univ) : sProp 𝕄)
      ⊢ (sch m ρ).payload (kcell (p, rsK p c)) 0 c := by
    rw [payload_cell m ρ p (rsK p c) c, pk_rsK m ρ p c c, set_rS]
    exact Entails.of_eq (rS_write p c fd (RSB m ρ p) _ (by rw [read_bS, part_RSB]))
  have e1 : (bP c (reg p) (XBF m ρ c) : sProp 𝕄) = ((bS p).view.loc (c : Thread nD τ) ↦[(bS p).view.set]{fullShare} XBF m ρ c) := by
    rw [set_bS]; rfl
  have e2 : (rP p (reg c) fd : sProp 𝕄) = ((rS c).view.loc (p : Thread nD τ) ↦[(rS c).view.set]{fullShare} fd) := by
    rw [set_rS]; rfl
  rw [e1, e2]
  exact Rounds.wp_send_pointsTo 𝒱₀ ER (sch m ρ) (c : Thread nD τ) none (κ₁ := K (c, 1)) (κ₂ := K (p, rsK p c))
    (c' := (Dev.tc p : Thread nD τ)) (src := bS p) (dst := rS c) (hsc := hsc) (sS := csem 1) (sem := csem (rsK p c))
    (r₁ := 0) (r₂ := 0) (d₁ := p) (d₂ := c) (fd := fd) (fs := XBF m ρ c) (q := fullShare)
    (by rw [duties_cell m ρ c 1]; exact hpo) (by rw [duties_cell m ρ p (rsK p c)]; exact mem_dk_rsK p c (mem_others_symm c p hpo))
    () () N (by rcases rsK_cases p c with h | h | h <;> rw [h] <;> rfl) ((amount_cell m ρ c 1 p).trans (amt_dma 1 (by decide)))
    ((amount_cell m ρ p (rsK p c) c).trans (amt_dma _ (by rcases rsK_cases p c with h | h | h <;> rw [h] <;> decide)))
    O rfl (W := W) hp1 hp2 (Es := Set.univ)

omit [FloatOps F] in
theorem cred_succ (g : GSem nD τ sig) (j : ℕ) :
    iprop(cred (tallyAt g () (j * N)) ∗ cred (tallyAt g () N)) ⊢ (cred (tallyAt g () ((j + 1) * N)) : sProp 𝕄) := by
  rw [Nat.succ_mul, ← tallyAt_add]
  exact (cred_add _ _).2

theorem rs_step (c p : Dev nD) (s s' : Finset (Dev nD)) (R : CellTallies nD τ sig Unit) (j : ℕ) (hs : s = insert p s') (hp : p ∉ s')
    (hpo : p ∈ others c) (n : Dev nD) (hn : n = p) (off₁ off₂ : Fin 2 → ℕ) (h₁ : off₁ = ![32 * p.val, 0]) (h₂ : off₂ = ![32 * c.val, 0])
    (sem : SemLoc sig) (hsm : sem = csem (rsK p c))
    {b₁ : ∀ a, off₁ a + S32x256.size a ≤ S256x256.size a} {b₂ : ∀ a, off₂ a + S32x256.size a ≤ S256x256.size a}
    {hsc : ((rM : Memref sig (Dev.tc n : Thread nD τ).2.kind .vmem S256x256 .bf16).slice (Rect.unit (s := S256x256) off₂ S32x256.size b₂) (fun _ => rfl)).view.ref.isScScratch = false}
    {hsrc : (bM.slice (Rect.unit (s := S256x256) off₁ S32x256.size b₁) (fun _ => rfl)).view.WordExact}
    {hdst : (rM.slice (Rect.unit (s := S256x256) off₂ S32x256.size b₂) (fun _ => rfl)).view.WordExact}
    {hsem : DmaTarget.Typed .vmem sem (.remote (Dev.tc n : Thread nD τ) (rM.slice (Rect.unit (s := S256x256) off₂ S32x256.size b₂) (fun _ => rfl)) (.dma cc0_scratch3.sem) hsc)}
    {α : Type} {Q : α → sProp 𝕄} {k : PUnit → Prog (TpuEff nD τ sig (Elt F) Λ₀ .tc) α} :
    iprop(Recs m ρ K ∗ RSst m ρ c s R j)
      ⊢ iprop((RSst m ρ c s' R (j + 1) -∗ wpc c (k ⟨⟩) Q)
          -∗ wpc c (.op (.enqueueDma (bM.slice (Rect.unit (s := S256x256) off₁ S32x256.size b₁) (fun _ => rfl))
              (.remote (Dev.tc n : Thread nD τ) (rM.slice (Rect.unit (s := S256x256) off₂ S32x256.size b₂) (fun _ => rfl)) (.dma cc0_scratch3.sem) hsc)
              sem hsrc hdst hsem) k) Q) := by
  subst hn hs h₁ h₂
  unfold RSst Ow
  rw [sep_ins hp, oRs_insert c n s' hp R]
  unfold rsRes
  iintro ⟨#HR, ⟨⟨Ht₁, Ht₂, ⟨%fd, Hr⟩, Hb⟩, Hs⟩, ⟨%W, HO⟩, Hc⟩ Hk
  iapply (rs_rule m ρ K c n hpo (oRs c s' + R) W fd sem hsm) $$ [HO Ht₁ Ht₂ Hr Hb]
  · isplitr; · iapply (Recs_inv m ρ K c 1); iexact HR
    isplitr; · iapply (Recs_inv m ρ K n (rsK n c)); iexact HR
    isplitl [Hb]; · iexact Hb
    isplitl [Hr]; · iexact Hr
    isplitl [HO]; · iexact HO
    isplitl [Ht₁]; · iexact Ht₁
    isplitr; · iapply (Recs_reached m ρ K c 1); iexact HR
    isplitl [Ht₂]; · iexact Ht₂
    iapply (Recs_reached m ρ K n (rsK n c)); iexact HR
  iintro ⟨Hc', HO⟩
  iapply Hk
  isplitl [Hs]; · iexact Hs
  isplitl [HO]; · iexists W; iexact HO
  iapply (cred_succ (F := F) (kcell (c, 1)) j)
  isplitl [Hc] <;> iassumption

/-! ## The gather -/

def agRes (c p : Dev nD) : sProp 𝕄 :=
  iprop(dutyTok ER (kcell (c, 5)) 0 p ∗ dutyTok ER (kcell (p, 6)) 0 c ∗ (∃ f, oP p (reg c) f) ∗ mP c (qOf p) (MINE m ρ c))

def AGst (c : Dev nD) (s : Finset (Dev nD)) (j : ℕ) : sProp 𝕄 :=
  iprop(bigSep s (agRes m ρ c) ∗ Ow c (oAg c s) ∗ cred (tallyAt (kcell (c, 5)) () (j * N)))

omit [FloatOps F] in
theorem read_mM (f : S32x256.Idx → Elt F .bf16) : (mM : Memref sig .tc .vmem S32x256 .bf16).view.read (Elt F) f = f := View.read_whole _ _
theorem set_mM : (mM : Memref sig .tc .vmem S32x256 .bf16).view.set = Finset.univ := View.set_whole _

theorem ag_rule (c p : Dev nD) (hpo : p ∈ others c) (O : CellTallies nD τ sig Unit) (W : Waits sig Unit) (fd : S256x256.Idx → Elt F .bf16)
    {hsc : (oS c : Memref sig (Dev.tc p : Thread nD τ).2.kind .vmem S32x256 .bf16).view.ref.isScScratch = false}
    {hsrc : (mM : Memref sig .tc .vmem S32x256 .bf16).view.WordExact} {hdst : (oS c).view.WordExact}
    {hsem : DmaTarget.Typed .vmem (csem 6) (.remote (Dev.tc p : Thread nD τ) (oS c) (csem 5) hsc)}
    {α : Type} {Q : α → sProp 𝕄} {k : PUnit → Prog (TpuEff nD τ sig (Elt F) Λ₀ .tc) α} :
    iprop(cellInv ER (sch m ρ) (K (c, 5)) (kcell (c, 5)) ∗ cellInv ER (sch m ρ) (K (p, 6)) (kcell (p, 6))
        ∗ mP c (qOf p) (MINE m ρ c) ∗ oP p (reg c) fd
        ∗ owes (c : Thread nD τ) (O + tallyAt (kcell (p, 6)) () N) W
        ∗ dutyTok ER (kcell (c, 5)) 0 p ∗ reached ER (kcell (c, 5)) 0
        ∗ dutyTok ER (kcell (p, 6)) 0 c ∗ reached ER (kcell (p, 6)) 0)
      ⊢ iprop(((cred (tallyAt (kcell (c, 5)) () N) ∗ owes (c : Thread nD τ) O W) -∗ wpc c (k ⟨⟩) Q)
          -∗ wpc c (.op (.enqueueDma mM (.remote (Dev.tc p : Thread nD τ) (oS c) (csem 5) hsc) (csem 6) hsrc hdst hsem) k) Q) := by
  have hp1 : ((mM : Memref sig .tc .vmem S32x256 .bf16).view.loc (c : Thread nD τ) ↦[(mM : Memref sig .tc .vmem S32x256 .bf16).view.set]{qOf p} MINE m ρ c : sProp 𝕄)
      ⊢ (sch m ρ).payload (kcell (c, 5)) 0 p := by
    rw [payload_cell m ρ c 5 p, set_mM]
    exact BI.Entails.refl _
  have hp2 : ((oS c).view.loc (p : Thread nD τ) ↦[(oS c).view.set]{fullShare}
      ((oS c).view.write (Elt F) fd ((mM : Memref sig .tc .vmem S32x256 .bf16).view.read (Elt F) (MINE m ρ c)) Finset.univ) : sProp 𝕄)
      ⊢ (sch m ρ).payload (kcell (p, 6)) 0 c := by
    rw [payload_cell m ρ p 6 c, set_oS]
    exact Entails.of_eq (oS_write p c fd (OUTB m ρ) _ (by rw [read_mM, part_OUTB]))
  have e1 : (mP c (qOf p) (MINE m ρ c) : sProp 𝕄)
      = ((mM : Memref sig .tc .vmem S32x256 .bf16).view.loc (c : Thread nD τ) ↦[(mM : Memref sig .tc .vmem S32x256 .bf16).view.set]{qOf p} MINE m ρ c) := by
    rw [set_mM]; rfl
  have e2 : (oP p (reg c) fd : sProp 𝕄) = ((oS c).view.loc (p : Thread nD τ) ↦[(oS c).view.set]{fullShare} fd) := by
    rw [set_oS]; rfl
  rw [e1, e2]
  exact Rounds.wp_send_pointsTo 𝒱₀ ER (sch m ρ) (c : Thread nD τ) none (κ₁ := K (c, 5)) (κ₂ := K (p, 6))
    (c' := (Dev.tc p : Thread nD τ)) (src := mM) (dst := oS c) (hsc := hsc) (sS := csem 5) (sem := csem 6)
    (r₁ := 0) (r₂ := 0) (d₁ := p) (d₂ := c) (fd := fd) (fs := MINE m ρ c) (q := qOf p)
    (by rw [duties_cell m ρ c 5]; exact hpo) (by rw [duties_cell m ρ p 6]; exact mem_others_symm c p hpo)
    () () N rfl ((amount_cell m ρ c 5 p).trans (amt_dma 5 (by decide))) ((amount_cell m ρ p 6 c).trans (amt_dma 6 (by decide)))
    O rfl (W := W) hp1 hp2 (Es := Set.univ)

theorem ag_step (c p : Dev nD) (s s' : Finset (Dev nD)) (j : ℕ) (hs : s = insert p s') (hp : p ∉ s')
    (hpo : p ∈ others c) (n : Dev nD) (hn : n = p) (off₂ : Fin 2 → ℕ) (h₂ : off₂ = ![32 * c.val, 0])
    {b₂ : ∀ a, off₂ a + S32x256.size a ≤ S256x256.size a}
    {hsc : ((oM : Memref sig (Dev.tc n : Thread nD τ).2.kind .vmem S256x256 .bf16).slice (Rect.unit (s := S256x256) off₂ S32x256.size b₂) (fun _ => rfl)).view.ref.isScScratch = false}
    {hsrc : (mM : Memref sig .tc .vmem S32x256 .bf16).view.WordExact}
    {hdst : (oM.slice (Rect.unit (s := S256x256) off₂ S32x256.size b₂) (fun _ => rfl)).view.WordExact}
    {hsem : DmaTarget.Typed .vmem (.dma cc0_scratch8.sem) (.remote (Dev.tc n : Thread nD τ) (oM.slice (Rect.unit (s := S256x256) off₂ S32x256.size b₂) (fun _ => rfl)) (.dma cc0_scratch7.sem) hsc)}
    {α : Type} {Q : α → sProp 𝕄} {k : PUnit → Prog (TpuEff nD τ sig (Elt F) Λ₀ .tc) α} :
    iprop(Recs m ρ K ∗ AGst m ρ c s j)
      ⊢ iprop((AGst m ρ c s' (j + 1) -∗ wpc c (k ⟨⟩) Q)
          -∗ wpc c (.op (.enqueueDma mM
              (.remote (Dev.tc n : Thread nD τ) (oM.slice (Rect.unit (s := S256x256) off₂ S32x256.size b₂) (fun _ => rfl)) (.dma cc0_scratch7.sem) hsc)
              (.dma cc0_scratch8.sem) hsrc hdst hsem) k) Q) := by
  subst hn hs h₂
  unfold AGst Ow
  rw [sep_ins hp, oAg_insert c n s' hp]
  unfold agRes
  iintro ⟨#HR, ⟨⟨Ht₁, Ht₂, ⟨%fd, Ho⟩, Hm⟩, Hs⟩, ⟨%W, HO⟩, Hc⟩ Hk
  iapply (ag_rule m ρ K c n hpo (oAg c s') W fd) $$ [HO Ht₁ Ht₂ Ho Hm]
  · isplitr; · iapply (Recs_inv m ρ K c 5); iexact HR
    isplitr; · iapply (Recs_inv m ρ K n 6); iexact HR
    isplitl [Hm]; · iexact Hm
    isplitl [Ho]; · iexact Ho
    isplitl [HO]; · iexact HO
    isplitl [Ht₁]; · iexact Ht₁
    isplitr; · iapply (Recs_reached m ρ K c 5); iexact HR
    isplitl [Ht₂]; · iexact Ht₂
    iapply (Recs_reached m ρ K n 6); iexact HR
  iintro ⟨Hc', HO⟩
  iapply Hk
  isplitl [Hs]; · iexact Hs
  isplitl [HO]; · iexists W; iexact HO
  iapply (cred_succ (F := F) (kcell (c, 5)) j)
  isplitl [Hc] <;> iassumption

end Cert.AllReduce
-- ==== Proof.Parts.lean ====
/-
The all-reduce over eight devices, part four: the tables of the devices and chunks the body names, and the body's
first three parts (the entry signals).
-/
module

public import proofs.«01_k».proof.Proof.Steps

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Who is signalled and sent to, in which order -/

/-- The device `k` after `c` around the ring. -/
def dp (c : Dev nD) (k : ℕ) : Dev nD := ⟨(c.val + k) % 8, Nat.mod_lt _ (by decide)⟩

/-- The devices still to be signalled after `i` signals: they go to the devices 1, 2, … after `c`. -/
def remS (c : Dev nD) (i : ℕ) : Finset (Dev nD) := Finset.univ.filter fun p => i < (p.val + 8 - c.val) % 8

/-- The masks of the transfers, in order; and when a mask's turn is. -/
def ordv (i : Fin 7) : ℕ := match i with | 0 => 6 | 1 => 5 | 2 => 7 | 3 => 2 | 4 => 1 | 5 => 3 | 6 => 4
def posOf (k : ℕ) : ℕ := match k with | 6 => 0 | 5 => 1 | 7 => 2 | 2 => 3 | 1 => 4 | 3 => 5 | _ => 6
/-- The devices still to be sent to after `i` transfers. -/
def rem (c : Dev nD) (i : ℕ) : Finset (Dev nD) := Finset.univ.filter fun p => p ≠ c ∧ i ≤ posOf (c.val ^^^ p.val)

theorem remS_0 (c : Dev nD) : remS c 0 = others c := by revert c; decide
theorem remS_7 (c : Dev nD) : remS c 7 = ∅ := by revert c; decide
theorem remS_step (c : Dev nD) (i : Fin 7) : remS c i.val = insert (dp c (i.val + 1)) (remS c (i.val + 1)) := by revert c i; decide
theorem remS_not (c : Dev nD) (i : Fin 7) : dp c (i.val + 1) ∉ remS c (i.val + 1) := by revert c i; decide
theorem dp_others (c : Dev nD) (i : Fin 7) : dp c (i.val + 1) ∈ others c := by revert c i; decide

theorem rem_0 (c : Dev nD) : rem c 0 = others c := by revert c; decide
theorem rem_7 (c : Dev nD) : rem c 7 = ∅ := by revert c; decide
theorem rem_step (c : Dev nD) (i : Fin 7) : rem c i.val = insert (dx c (ordv i)) (rem c (i.val + 1)) := by revert c i; decide
theorem rem_not (c : Dev nD) (i : Fin 7) : dx c (ordv i) ∉ rem c (i.val + 1) := by revert c i; decide
theorem dx_others (c : Dev nD) (i : Fin 7) : dx c (ordv i) ∈ others c := by revert c i; decide

theorem rsK_far (c : Dev nD) : rsK (dx c 6) c = 4 := by revert c; decide
theorem rsK_mid5 (c : Dev nD) : rsK (dx c 5) c = 3 := by revert c; decide
theorem rsK_mid7 (c : Dev nD) : rsK (dx c 7) c = 3 := by revert c; decide
theorem rsK_mid2 (c : Dev nD) : rsK (dx c 2) c = 3 := by revert c; decide
theorem rsK_near1 (c : Dev nD) : rsK (dx c 1) c = 2 := by revert c; decide
theorem rsK_near3 (c : Dev nD) : rsK (dx c 3) c = 2 := by revert c; decide
theorem rsK_near4 (c : Dev nD) : rsK (dx c 4) c = 2 := by revert c; decide

/-- The body's device and offset computations. -/
theorem dev1 (c : Dev nD) : (⟨k0_dev1 c, k0_dev1_lt c⟩ : Dev nD) = dp c 1 := Fin.ext (show k0_dev1 c = (dp c 1).val by revert c; decide +kernel)
theorem dev2 (c : Dev nD) : (⟨k0_dev2 c, k0_dev2_lt c⟩ : Dev nD) = dp c 2 := Fin.ext (show k0_dev2 c = (dp c 2).val by revert c; decide +kernel)
theorem dev3 (c : Dev nD) : (⟨k0_dev3 c, k0_dev3_lt c⟩ : Dev nD) = dp c 3 := Fin.ext (show k0_dev3 c = (dp c 3).val by revert c; decide +kernel)
theorem dev4 (c : Dev nD) : (⟨k0_dev4 c, k0_dev4_lt c⟩ : Dev nD) = dp c 4 := Fin.ext (show k0_dev4 c = (dp c 4).val by revert c; decide +kernel)
theorem dev5 (c : Dev nD) : (⟨k0_dev5 c, k0_dev5_lt c⟩ : Dev nD) = dp c 5 := Fin.ext (show k0_dev5 c = (dp c 5).val by revert c; decide +kernel)
theorem dev6 (c : Dev nD) : (⟨k0_dev6 c, k0_dev6_lt c⟩ : Dev nD) = dp c 6 := Fin.ext (show k0_dev6 c = (dp c 6).val by revert c; decide +kernel)
theorem dev7 (c : Dev nD) : (⟨k0_dev7 c, k0_dev7_lt c⟩ : Dev nD) = dp c 7 := Fin.ext (show k0_dev7 c = (dp c 7).val by revert c; decide +kernel)
theorem dev8 (c : Dev nD) : (⟨k0_dev8 c, k0_dev8_lt c⟩ : Dev nD) = dx c 6 := Fin.ext (show k0_dev8 c = (dx c 6).val by revert c; decide +kernel)
theorem dev9 (c : Dev nD) : (⟨k0_dev9 c, k0_dev9_lt c⟩ : Dev nD) = dx c 5 := Fin.ext (show k0_dev9 c = (dx c 5).val by revert c; decide +kernel)
theorem dev10 (c : Dev nD) : (⟨k0_dev10 c, k0_dev10_lt c⟩ : Dev nD) = dx c 7 := Fin.ext (show k0_dev10 c = (dx c 7).val by revert c; decide +kernel)
theorem dev11 (c : Dev nD) : (⟨k0_dev11 c, k0_dev11_lt c⟩ : Dev nD) = dx c 2 := Fin.ext (show k0_dev11 c = (dx c 2).val by revert c; decide +kernel)
theorem dev12 (c : Dev nD) : (⟨k0_dev12 c, k0_dev12_lt c⟩ : Dev nD) = dx c 1 := Fin.ext (show k0_dev12 c = (dx c 1).val by revert c; decide +kernel)
theorem dev13 (c : Dev nD) : (⟨k0_dev13 c, k0_dev13_lt c⟩ : Dev nD) = dx c 3 := Fin.ext (show k0_dev13 c = (dx c 3).val by revert c; decide +kernel)
theorem dev14 (c : Dev nD) : (⟨k0_dev14 c, k0_dev14_lt c⟩ : Dev nD) = dx c 4 := Fin.ext (show k0_dev14 c = (dx c 4).val by revert c; decide +kernel)
theorem dev15 (c : Dev nD) : (⟨k0_dev15 c, k0_dev15_lt c⟩ : Dev nD) = dx c 6 := Fin.ext (show k0_dev15 c = (dx c 6).val by revert c; decide +kernel)
theorem dev16 (c : Dev nD) : (⟨k0_dev16 c, k0_dev16_lt c⟩ : Dev nD) = dx c 5 := Fin.ext (show k0_dev16 c = (dx c 5).val by revert c; decide +kernel)
theorem dev17 (c : Dev nD) : (⟨k0_dev17 c, k0_dev17_lt c⟩ : Dev nD) = dx c 7 := Fin.ext (show k0_dev17 c = (dx c 7).val by revert c; decide +kernel)
theorem dev18 (c : Dev nD) : (⟨k0_dev18 c, k0_dev18_lt c⟩ : Dev nD) = dx c 2 := Fin.ext (show k0_dev18 c = (dx c 2).val by revert c; decide +kernel)
theorem dev19 (c : Dev nD) : (⟨k0_dev19 c, k0_dev19_lt c⟩ : Dev nD) = dx c 1 := Fin.ext (show k0_dev19 c = (dx c 1).val by revert c; decide +kernel)
theorem dev20 (c : Dev nD) : (⟨k0_dev20 c, k0_dev20_lt c⟩ : Dev nD) = dx c 3 := Fin.ext (show k0_dev20 c = (dx c 3).val by revert c; decide +kernel)
theorem dev21 (c : Dev nD) : (⟨k0_dev21 c, k0_dev21_lt c⟩ : Dev nD) = dx c 4 := Fin.ext (show k0_dev21 c = (dx c 4).val by revert c; decide +kernel)

theorem off3 (c : Dev nD) (r : Fin 7) : k0_off3 c (BitVec.ofNat 32 (1 + r.val)) = ![32 * (dx c (1 + r.val)).val, 0] := by
  revert c r; decide +kernel
theorem off4 (c : Dev nD) (r : Fin 7) : k0_off4 c (BitVec.ofNat 32 (1 + r.val)) = ![32 * (dx c (1 + r.val)).val, 0] := by
  revert c r; decide +kernel

/-! ## The entry signals -/

variable (K : Dev nD × Fin 7 → ℕ)

theorem part1_run (c : Dev nD) (R : CellTallies nD τ sig Unit)
    (Q : (Σ' (d0 : Dev nD) (v2 : BitVec 32) (v3 : Sems sig S_) (v30 : BitVec 32) (c8_i32_18 : BitVec 32), BitVec 1) → sProp 𝕄) :
    iprop(Recs m ρ K ∗ SGst c (remS c 0) R ∗ (∀ v2 v30 v31, SGst c (remS c 2) R -∗ Q ⟨c, v2, barArr, v30, 8#32, v31⟩))
      ⊢ wpc c (k0_part1 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8) Q := by
  rw [k0_part1_eq_skeleton]; unfold k0_part1_skel
  simp only [semSignalWord, semWaitWord, Prog.lift, Prog.bind_op, Prog.bind_ret, Prog.pure_eq_ret, wp_deviceId]
  iintro ⟨#HR, HS, HQ⟩
  iapply (sig_step m ρ K c (dp c 1) (remS c 0) (remS c 1) R (remS_step c 0) (remS_not c 0) (dp_others c 0) _ (dev1 c)) $$ [HS]
  · isplitr; · iexact HR
    iexact HS
  iintro HS
  iapply (sig_step m ρ K c (dp c 2) (remS c 1) (remS c 2) R (remS_step c 1) (remS_not c 1) (dp_others c 1) _ (dev2 c)) $$ [HS]
  · isplitr; · iexact HR
    iexact HS
  iintro HS
  iapply (wpc_ret (F := F) c)
  iapply HQ; iexact HS

theorem part2_run (c : Dev nD) (R : CellTallies nD τ sig Unit) (v2 v30 v x : BitVec 32) (v31 : BitVec 1)
    (Q : (Σ' (v59 : BitVec 32) (v64 : BitVec 1), BitVec 32) → sProp 𝕄) :
    iprop(Recs m ρ K ∗ SGst c (remS c 2) R ∗ (∀ v, SGst c (remS c 4) R -∗ Q v))
      ⊢ wpc c (k0_part2 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 barArr v30 x v31) Q := by
  rw [k0_part2_eq_skeleton]; unfold k0_part2_skel
  simp only [semSignalWord, semWaitWord, Prog.lift, Prog.bind_op, Prog.bind_ret, Prog.pure_eq_ret, wp_deviceId]
  iintro ⟨#HR, HS, HQ⟩
  iapply (sig_step m ρ K c (dp c 3) (remS c 2) (remS c 3) R (remS_step c 2) (remS_not c 2) (dp_others c 2) _ (dev3 c)) $$ [HS]
  · isplitr; · iexact HR
    iexact HS
  iintro HS
  iapply (sig_step m ρ K c (dp c 4) (remS c 3) (remS c 4) R (remS_step c 3) (remS_not c 3) (dp_others c 3) _ (dev4 c)) $$ [HS]
  · isplitr; · iexact HR
    iexact HS
  iintro HS
  iapply (wpc_ret (F := F) c)
  iapply HQ; iexact HS

/-- The staged rows, and loading them. -/
def xP (c : Dev nD) : sProp 𝕄 := ((c : Thread nD τ).loc cc0_stg0_0) ↦{fullShare} xstg m ρ c

omit [FloatOps F] in
theorem hz : (![0, 0] : Fin 2 → Nat) = fun _ => 0 := funext fun a => by fin_cases a <;> rfl

theorem part3_run (c : Dev nD) (R : CellTallies nD τ sig Unit) (v2 v59 v65 : BitVec 32) (v64 : BitVec 1)
    (Q : FVec F S256x256 .bf16 → sProp 𝕄) :
    iprop(Recs m ρ K ∗ SGst c (remS c 4) R ∗ xP m ρ c ∗ ((SGst c (remS c 7) R ∗ xP m ρ c) -∗ Q (k0_pay1 (xstg m ρ c))))
      ⊢ wpc c (k0_part3 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 barArr v59 v64 v65) Q := by
  rw [k0_part3_eq_skeleton]; unfold k0_part3_skel
  simp only [semSignalWord, semWaitWord, Prog.lift, Prog.bind_op, Prog.bind_ret, Prog.pure_eq_ret, wp_deviceId]
  iintro ⟨#HR, HS, Hx, HQ⟩
  iapply (sig_step m ρ K c (dp c 5) (remS c 4) (remS c 5) R (remS_step c 4) (remS_not c 4) (dp_others c 4) _ (dev5 c)) $$ [HS]
  · isplitr; · iexact HR
    iexact HS
  iintro HS
  iapply (sig_step m ρ K c (dp c 6) (remS c 5) (remS c 6) R (remS_step c 5) (remS_not c 5) (dp_others c 5) _ (dev6 c)) $$ [HS]
  · isplitr; · iexact HR
    iexact HS
  iintro HS
  iapply (sig_step m ρ K c (dp c 7) (remS c 6) (remS c 7) R (remS_step c 6) (remS_not c 6) (dp_others c 6) _ (dev7 c)) $$ [HS]
  · isplitr; · iexact HR
    iexact HS
  iintro HS
  unfold xP
  iapply (wp_load 𝒱₀ (c : Thread nD τ) none Set.univ (m := xM) (Finset.subset_univ _)) $$ Hx; iintro Hx
  rw [show (xM : Memref sig .tc .vmem S256x256 .bf16).view.readAt (Elt F) (Rect.unit (s := S256x256) ![0, 0] S256x256.size inb_S256x256_S256x256_0_0).toLoadRect (xstg m ρ c) = xstg m ρ c from
    Memref.readAt_unit_zero (Elt F) cc0_stg0_0 hz _ _]
  iapply (wpc_ret (F := F) c)
  iapply HQ
  isplitl [HS] <;> iassumption

end Cert.AllReduce
-- ==== Proof.Mem.lean ====
/-
The all-reduce over eight devices, part five: the body's loads and stores, as steps on the pieces of memory of the
schedule, and the pieces joined to whole buffers and split again.
-/
module

public import proofs.«01_k».proof.Proof.Steps

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks loaded and stored -/

omit [FloatOps F] in
theorem read_rS (d : Dev nD) (f : S256x256.Idx → Elt F .bf16) : (rS d).view.read (Elt F) f = part d f := by
  funext j
  show f ((chR d).emb j) = f (pl d j)
  rw [chR_emb]
omit [FloatOps F] in
theorem read_oS (d : Dev nD) (f : S256x256.Idx → Elt F .bf16) : (oS d).view.read (Elt F) f = part d f := by
  funext j
  show f ((chR d).emb j) = f (pl d j)
  rw [chR_emb]

theorem load_b (c d : Dev nD) (f : S256x256.Idx → Elt F .bf16) (S : Finset S256x256.Idx) (hS : reg d ⊆ S) (off : Fin 2 → ℕ) (h : off = ![32 * d.val, 0])
    {b : ∀ a, off a + S32x256.size a ≤ S256x256.size a}
    {hl : (bM : Memref sig .tc .vmem S256x256 .bf16).view.LoadsAt (Rect.unit (s := S256x256) off S32x256.size b).toLoadRect}
    {α : Type} {Q : α → sProp 𝕄} {k : (S32x256.Idx → Elt F .bf16) → Prog (TpuEff nD τ sig (Elt F) Λ₀ .tc) α} :
    bP c S f ⊢ iprop((bP c S f -∗ wpc c (k (part d f)) Q)
      -∗ wpc c (.op (.load bM (Rect.unit (s := S256x256) off S32x256.size b).toLoadRect hl) k) Q) := by
  subst h
  rw [← read_bS d f]
  exact wp_load_rect 𝒱₀ (c : Thread nD τ) none Set.univ (m := bM) (r := chR d) (S := S) (q := fullShare) (f := f)
    (by rw [show ((bM : Memref sig .tc .vmem S256x256 .bf16).access (chR d)).set = reg d from set_bS d]; exact hS)

theorem load_r (c d : Dev nD) (f : S256x256.Idx → Elt F .bf16) (S : Finset S256x256.Idx) (hS : reg d ⊆ S) (off : Fin 2 → ℕ) (h : off = ![32 * d.val, 0])
    {b : ∀ a, off a + S32x256.size a ≤ S256x256.size a}
    {hl : (rM : Memref sig .tc .vmem S256x256 .bf16).view.LoadsAt (Rect.unit (s := S256x256) off S32x256.size b).toLoadRect}
    {α : Type} {Q : α → sProp 𝕄} {k : (S32x256.Idx → Elt F .bf16) → Prog (TpuEff nD τ sig (Elt F) Λ₀ .tc) α} :
    rP c S f ⊢ iprop((rP c S f -∗ wpc c (k (part d f)) Q)
      -∗ wpc c (.op (.load rM (Rect.unit (s := S256x256) off S32x256.size b).toLoadRect hl) k) Q) := by
  subst h
  rw [← read_rS d f]
  exact wp_load_rect 𝒱₀ (c : Thread nD τ) none Set.univ (m := rM) (r := chR d) (S := S) (q := fullShare) (f := f)
    (by rw [show ((rM : Memref sig .tc .vmem S256x256 .bf16).access (chR d)).set = reg d from set_rS d]; exact hS)

theorem load_o (c d : Dev nD) (f : S256x256.Idx → Elt F .bf16) (S : Finset S256x256.Idx) (hS : reg d ⊆ S) (off : Fin 2 → ℕ) (h : off = ![32 * d.val, 0])
    {b : ∀ a, off a + S32x256.size a ≤ S256x256.size a}
    {hl : (oM : Memref sig .tc .vmem S256x256 .bf16).view.LoadsAt (Rect.unit (s := S256x256) off S32x256.size b).toLoadRect}
    {α : Type} {Q : α → sProp 𝕄} {k : (S32x256.Idx → Elt F .bf16) → Prog (TpuEff nD τ sig (Elt F) Λ₀ .tc) α} :
    oP c S f ⊢ iprop((oP c S f -∗ wpc c (k (part d f)) Q)
      -∗ wpc c (.op (.load oM (Rect.unit (s := S256x256) off S32x256.size b).toLoadRect hl) k) Q) := by
  subst h
  rw [← read_oS d f]
  exact wp_load_rect 𝒱₀ (c : Thread nD τ) none Set.univ (m := oM) (r := chR d) (S := S) (q := fullShare) (f := f)
    (by rw [show ((oM : Memref sig .tc .vmem S256x256 .bf16).access (chR d)).set = reg d from set_oS d]; exact hS)

theorem store_r (c d : Dev nD) (f g : S256x256.Idx → Elt F .bf16) (w : S32x256.Idx → Elt F .bf16) (hw : w = part d g) (off : Fin 2 → ℕ) (h : off = ![32 * d.val, 0])
    {b : ∀ a, off a + S32x256.size a ≤ S256x256.size a}
    {hx : ((rM : Memref sig .tc .vmem S256x256 .bf16).access (Rect.unit (s := S256x256) off S32x256.size b)).Stores Finset.univ} {hm}
    {α : Type} {Q : α → sProp 𝕄} {k : PUnit → Prog (TpuEff nD τ sig (Elt F) Λ₀ .tc) α} :
    rP c (reg d) f ⊢ iprop((rP c (reg d) g -∗ wpc c (k ⟨⟩) Q)
      -∗ wpc c (.op (.store rM (Rect.unit (s := S256x256) off S32x256.size b) w Finset.univ hx hm) k) Q) := by
  subst h
  rw [← rS_write c d f g w hw]
  exact wp_store 𝒱₀ (c : Thread nD τ) none Set.univ (m := rM) (r := chR d) (Mk := Finset.univ) (S := reg d) (f := f)
    (by rw [View.setOn_univ, show ((rM : Memref sig .tc .vmem S256x256 .bf16).access (chR d)).set = reg d from set_rS d])

theorem store_o (c d : Dev nD) (f g : S256x256.Idx → Elt F .bf16) (w : S32x256.Idx → Elt F .bf16) (hw : w = part d g) (off : Fin 2 → ℕ) (h : off = ![32 * d.val, 0])
    {b : ∀ a, off a + S32x256.size a ≤ S256x256.size a}
    {hx : ((oM : Memref sig .tc .vmem S256x256 .bf16).access (Rect.unit (s := S256x256) off S32x256.size b)).Stores Finset.univ} {hm}
    {α : Type} {Q : α → sProp 𝕄} {k : PUnit → Prog (TpuEff nD τ sig (Elt F) Λ₀ .tc) α} :
    oP c (reg d) f ⊢ iprop((oP c (reg d) g -∗ wpc c (k ⟨⟩) Q)
      -∗ wpc c (.op (.store oM (Rect.unit (s := S256x256) off S32x256.size b) w Finset.univ hx hm) k) Q) := by
  subst h
  rw [← oS_write c d f g w hw]
  exact wp_store 𝒱₀ (c : Thread nD τ) none Set.univ (m := oM) (r := chR d) (Mk := Finset.univ) (S := reg d) (f := f)
    (by rw [View.setOn_univ, show ((oM : Memref sig .tc .vmem S256x256 .bf16).access (chR d)).set = reg d from set_oS d])

/-! ## Whole buffers loaded and stored -/

omit [FloatOps F] in
theorem zoff : (![0, 0] : Fin 2 → Nat) = fun _ => 0 := funext fun a => by fin_cases a <;> rfl

theorem load_m (c : Dev nD) (q : PosShare TreeShare) (f : S32x256.Idx → Elt F .bf16)
    {hl : (mM : Memref sig .tc .vmem S32x256 .bf16).view.LoadsAt (Rect.unit (s := S32x256) ![0, 0] S32x256.size inb_S32x256_S32x256_0_0).toLoadRect}
    {α : Type} {Q : α → sProp 𝕄} {k : (S32x256.Idx → Elt F .bf16) → Prog (TpuEff nD τ sig (Elt F) Λ₀ .tc) α} :
    mP c q f ⊢ iprop((mP c q f -∗ wpc c (k f) Q)
      -∗ wpc c (.op (.load mM (Rect.unit (s := S32x256) ![0, 0] S32x256.size inb_S32x256_S32x256_0_0).toLoadRect hl) k) Q) := by
  have e : (mM : Memref sig .tc .vmem S32x256 .bf16).view.readAt (Elt F) (Rect.unit (s := S32x256) ![0, 0] S32x256.size inb_S32x256_S32x256_0_0).toLoadRect f = f :=
    Memref.readAt_unit_zero (Elt F) cc0_scratch2 zoff _ f
  rw [show k f = k ((mM : Memref sig .tc .vmem S32x256 .bf16).view.readAt (Elt F) (Rect.unit (s := S32x256) ![0, 0] S32x256.size inb_S32x256_S32x256_0_0).toLoadRect f) from congrArg k e.symm]
  exact wp_load 𝒱₀ (c : Thread nD τ) none Set.univ (m := mM) (S := Finset.univ) (q := q) (f := f) (Finset.subset_univ _)

theorem store_m (c : Dev nD) (f w : S32x256.Idx → Elt F .bf16)
    {hx : ((mM : Memref sig .tc .vmem S32x256 .bf16).access (Rect.unit (s := S32x256) ![0, 0] S32x256.size inb_S32x256_S32x256_0_0)).Stores Finset.univ} {hm}
    {α : Type} {Q : α → sProp 𝕄} {k : PUnit → Prog (TpuEff nD τ sig (Elt F) Λ₀ .tc) α} :
    mP c fullShare f ⊢ iprop((mP c fullShare w -∗ wpc c (k ⟨⟩) Q)
      -∗ wpc c (.op (.store mM (Rect.unit (s := S32x256) ![0, 0] S32x256.size inb_S32x256_S32x256_0_0) w Finset.univ hx hm) k) Q) := by
  have e : ((mM : Memref sig .tc .vmem S32x256 .bf16).access (Rect.unit (s := S32x256) ![0, 0] S32x256.size inb_S32x256_S32x256_0_0) : View sig .tc _ _ _).write (Elt F) f w Finset.univ = w :=
    Memref.write_access_unit_zero_univ (Elt F) cc0_scratch2 zoff _ f w
  rw [show (mP c fullShare w : sProp 𝕄) = mP c fullShare (((mM : Memref sig .tc .vmem S32x256 .bf16).access (Rect.unit (s := S32x256) ![0, 0] S32x256.size inb_S32x256_S32x256_0_0) : View sig .tc _ _ _).write (Elt F) f w Finset.univ) from congrArg (fun z => (mP c fullShare z : sProp 𝕄)) e.symm]
  exact wp_store 𝒱₀ (c : Thread nD τ) none Set.univ (m := mM) (r := Rect.unit (s := S32x256) ![0, 0] S32x256.size inb_S32x256_S32x256_0_0) (Mk := Finset.univ) (S := Finset.univ) (f := f) (Finset.subset_univ _)

theorem load_b_whole (c : Dev nD) (f : S256x256.Idx → Elt F .bf16)
    {hl : (bM : Memref sig .tc .vmem S256x256 .bf16).view.LoadsAt (Rect.unit (s := S256x256) ![0, 0] S256x256.size inb_S256x256_S256x256_0_0).toLoadRect}
    {α : Type} {Q : α → sProp 𝕄} {k : (S256x256.Idx → Elt F .bf16) → Prog (TpuEff nD τ sig (Elt F) Λ₀ .tc) α} :
    bP c Finset.univ f ⊢ iprop((bP c Finset.univ f -∗ wpc c (k f) Q)
      -∗ wpc c (.op (.load bM (Rect.unit (s := S256x256) ![0, 0] S256x256.size inb_S256x256_S256x256_0_0).toLoadRect hl) k) Q) := by
  have e : (bM : Memref sig .tc .vmem S256x256 .bf16).view.readAt (Elt F) (Rect.unit (s := S256x256) ![0, 0] S256x256.size inb_S256x256_S256x256_0_0).toLoadRect f = f :=
    Memref.readAt_unit_zero (Elt F) cc0_scratch0 zoff _ f
  rw [show k f = k ((bM : Memref sig .tc .vmem S256x256 .bf16).view.readAt (Elt F) (Rect.unit (s := S256x256) ![0, 0] S256x256.size inb_S256x256_S256x256_0_0).toLoadRect f) from congrArg k e.symm]
  exact wp_load 𝒱₀ (c : Thread nD τ) none Set.univ (m := bM) (S := Finset.univ) (q := fullShare) (f := f) (Finset.subset_univ _)

theorem store_b_whole (c : Dev nD) (f w : S256x256.Idx → Elt F .bf16)
    {hx : ((bM : Memref sig .tc .vmem S256x256 .bf16).access (Rect.unit (s := S256x256) ![0, 0] S256x256.size inb_S256x256_S256x256_0_0)).Stores Finset.univ} {hm}
    {α : Type} {Q : α → sProp 𝕄} {k : PUnit → Prog (TpuEff nD τ sig (Elt F) Λ₀ .tc) α} :
    bP c Finset.univ f ⊢ iprop((bP c Finset.univ w -∗ wpc c (k ⟨⟩) Q)
      -∗ wpc c (.op (.store bM (Rect.unit (s := S256x256) ![0, 0] S256x256.size inb_S256x256_S256x256_0_0) w Finset.univ hx hm) k) Q) := by
  have e : ((bM : Memref sig .tc .vmem S256x256 .bf16).access (Rect.unit (s := S256x256) ![0, 0] S256x256.size inb_S256x256_S256x256_0_0) : View sig .tc _ _ _).write (Elt F) f w Finset.univ = w :=
    Memref.write_access_unit_zero_univ (Elt F) cc0_scratch0 zoff _ f w
  rw [show (bP c Finset.univ w : sProp 𝕄) = bP c Finset.univ (((bM : Memref sig .tc .vmem S256x256 .bf16).access (Rect.unit (s := S256x256) ![0, 0] S256x256.size inb_S256x256_S256x256_0_0) : View sig .tc _ _ _).write (Elt F) f w Finset.univ) from congrArg (fun z => (bP c Finset.univ z : sProp 𝕄)) e.symm]
  exact wp_store 𝒱₀ (c : Thread nD τ) none Set.univ (m := bM) (r := Rect.unit (s := S256x256) ![0, 0] S256x256.size inb_S256x256_S256x256_0_0) (Mk := Finset.univ) (S := Finset.univ) (f := f) (Finset.subset_univ _)

/-! ## Whole buffers and their chunks -/

theorem cover : (Finset.univ : Finset (Dev nD)).biUnion reg = Finset.univ :=
  Finset.eq_univ_of_forall fun i => Finset.mem_biUnion.mpr ⟨blkOf i, Finset.mem_univ _, mem_reg_blkOf i⟩
theorem disj : ∀ d ∈ (Finset.univ : Finset (Dev nD)), ∀ e ∈ (Finset.univ : Finset (Dev nD)), d ≠ e → Disjoint (reg d) (reg e) :=
  fun d _ e _ h => reg_disjoint d e h
theorem univ_eq (c : Dev nD) : (Finset.univ : Finset (Dev nD)) = insert c (others c) := by unfold others; rw [Finset.insert_erase (Finset.mem_univ c)]
theorem not_others (c : Dev nD) : c ∉ others c := Finset.notMem_erase _ _

omit [FloatOps F] in
theorem bP_chunks (c : Dev nD) (f : S256x256.Idx → Elt F .bf16) :
    (bP c Finset.univ f : sProp 𝕄) = iprop(bP c (reg c) f ∗ bigSep (others c) fun d => bP c (reg d) f) := by
  rw [← sep_ins (Φ := fun d => (bP c (reg d) f : sProp 𝕄)) (not_others c), ← univ_eq, ← cover]
  exact pointsTo_biUnion _ _ disj
omit [FloatOps F] in
theorem rP_chunks (c : Dev nD) (f : S256x256.Idx → Elt F .bf16) :
    (rP c Finset.univ f : sProp 𝕄) = iprop(rP c (reg c) f ∗ bigSep (others c) fun d => rP c (reg d) f) := by
  rw [← sep_ins (Φ := fun d => (rP c (reg d) f : sProp 𝕄)) (not_others c), ← univ_eq, ← cover]
  exact pointsTo_biUnion _ _ disj
omit [FloatOps F] in
theorem oP_chunks (c : Dev nD) (f : S256x256.Idx → Elt F .bf16) :
    (oP c Finset.univ f : sProp 𝕄) = iprop(oP c (reg c) f ∗ bigSep (others c) fun d => oP c (reg d) f) := by
  rw [← sep_ins (Φ := fun d => (oP c (reg d) f : sProp 𝕄)) (not_others c), ← univ_eq, ← cover]
  exact pointsTo_biUnion _ _ disj
omit [FloatOps F] in
theorem mP_shares (c : Dev nD) (f : S32x256.Idx → Elt F .bf16) :
    (mP c fullShare f : sProp 𝕄) = iprop(mP c (qOf c) f ∗ bigSep (others c) fun d => mP c (qOf d) f) := by
  rw [← sep_ins (Φ := fun d => (mP c (qOf d) f : sProp 𝕄)) (not_others c), ← univ_eq]
  exact Transfers.pointsTo_deal Finset.univ ⟨c, Finset.mem_univ c⟩ fullShare

end Cert.AllReduce
-- ==== Proof.BodyA.lean ====
/-
The all-reduce over eight devices, part six: the body's parts four to seven — the chunks scattered, and the near and
the middle ones added up as they arrive.
-/
module

public import proofs.«01_k».proof.Proof.Parts
public import proofs.«01_k».proof.Proof.Mem

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

omit [FloatOps F] in
theorem sep_both (s : Finset (Dev nD)) (Φ Ψ : Dev nD → sProp 𝕄) :
    bigSep s (fun p => iprop(Φ p ∗ Ψ p)) = iprop(bigSep s Φ ∗ bigSep s Ψ) := BI.bigSep_sep' s Φ Ψ
omit [FloatOps F] in
theorem sep_none (Φ : Dev nD → sProp 𝕄) : bigSep ∅ Φ = iprop(emp) := BI.bigSep_empty
omit [FloatOps F] in
theorem sep_out {s : Finset (Dev nD)} {d : Dev nD} (h : d ∈ s) (Φ : Dev nD → sProp 𝕄) :
    bigSep s Φ = iprop(Φ d ∗ bigSep (s.erase d) Φ) := by
  rw [← sep_ins (Finset.notMem_erase d s), Finset.insert_erase h]

/-- A landed chunk, loaded. -/
theorem load_done (c d : Dev nD) (k : Fin 7) (hk : rsK c d = k) (hd : d ∈ others c) (off : Fin 2 → ℕ) (h : off = ![32 * d.val, 0])
    {b : ∀ a, off a + S32x256.size a ≤ S256x256.size a}
    {hl : (rM : Memref sig .tc .vmem S256x256 .bf16).view.LoadsAt (Rect.unit (s := S256x256) off S32x256.size b).toLoadRect}
    {α : Type} {Q : α → sProp 𝕄} {kk : (S32x256.Idx → Elt F .bf16) → Prog (TpuEff nD τ sig (Elt F) Λ₀ .tc) α} :
    Wdone m ρ c k ⊢ iprop((Wdone m ρ c k -∗ wpc c (kk (part d (RSB m ρ c))) Q)
      -∗ wpc c (.op (.load rM (Rect.unit (s := S256x256) off S32x256.size b).toLoadRect hl) kk) Q) := by
  subst hk
  unfold Wdone
  rw [sep_out (mem_dk_rsK c d hd), pk_rsK]
  iintro ⟨Hat, Hd, Hrest⟩ Hk
  iapply (load_r c d (RSB m ρ c) (reg d) (Finset.Subset.refl _) off h) $$ Hd
  iintro Hd
  iapply Hk
  isplitl [Hat]; · iexact Hat
  isplitl [Hd] <;> iassumption

theorem off1 (c : Dev nD) : k0_off1 c = ![32 * c.val, 0] := k0_off1_eq c
theorem off2 (c : Dev nD) : k0_off2 c = ![32 * c.val, 0] := k0_off2_eq c

/-- The tokens of `c`'s scatter. -/
def rsTok (c p : Dev nD) : sProp 𝕄 := iprop(dutyTok ER (kcell (c, 1)) 0 p ∗ dutyTok ER (kcell (p, rsK p c)) 0 c)

/-- What the entry handshake hands `c`, joined with its tokens and its own chunks. -/
theorem rs_gather (c : Dev nD) :
    iprop(bigSep (others c) (rsTok (F := F) c) ∗ bigSep (others c) (pk m ρ 0 c) ∗ bigSep (others c) fun d => bP c (reg d) (XBF m ρ c))
      ⊢ iprop(bigSep (others c) (rsRes m ρ c) ∗ bigSep (others c) fun p => iprop(∃ f, oP (F := F) p (reg c) f)) := by
  rw [← sep_both, ← sep_both, ← sep_both]
  refine BI.bigSep_mono fun p _ => ?_
  unfold rsTok rsRes
  show iprop((dutyTok ER (kcell (c, 1)) 0 p ∗ dutyTok ER (kcell (p, rsK p c)) 0 c) ∗ barPay c p ∗ bP c (reg p) (XBF m ρ c)) ⊢ _
  unfold barPay
  iintro ⟨⟨H1, H2⟩, ⟨Hr, Ho⟩, Hb⟩
  isplitr [Ho]
  · isplitl [H1]; · iexact H1
    isplitl [H2]; · iexact H2
    isplitl [Hr] <;> iassumption
  · iexact Ho

/-- Before the first transfer of the scatter. -/
theorem rs_start (c : Dev nD) :
    iprop(bigSep (others c) (rsRes m ρ c) ∗ Ow c (oRs c (others c) + oAg c (others c))) ⊢ RSst m ρ c (rem c 0) (oAg c (others c)) 0 := by
  unfold RSst
  rw [rem_0, Nat.zero_mul, tallyAt_zero, cred_zero]
  iintro ⟨H, HO⟩
  isplitl [H]; · iexact H
  isplitl [HO]; · iexact HO
  iempintro

/-- The store of a device's own chunk. -/
theorem pay3_eq (c : Dev nD) : k0_pay3 (F := F) (part c (XBF m ρ c)) = part c (RSB m ρ c) := by
  rw [part_RSB]; unfold k0_pay3; exact shapeCast_self _ _

def S4 (c : Dev nD) : sProp 𝕄 :=
  iprop(RSst m ρ c (rem c 2) (oAg c (others c)) 2 ∗ bP c (reg c) (XBF m ρ c) ∗ rP c (reg c) (RSB m ρ c)
    ∗ (bigSep (others c) fun p => iprop(∃ f, oP (F := F) p (reg c) f)) ∗ atPos ER (kcell (c, 0)) 1 ∅ 0)

theorem part4_run (c : Dev nD) (v2 : BitVec 32) (Q : (Σ' (v108 : BitVec 32) (v115 : BitVec 32) (v122 : BitVec 32) (v125 : BitVec 32), BitVec 32) → sProp 𝕄) :
    iprop(Recs m ρ K ∗ SGst c (remS c 7) (oRs c (others c) + oAg c (others c)) ∗ (∃ f, bP (F := F) c Finset.univ f) ∗ (∃ f, rP (F := F) c (reg c) f)
        ∗ atPos ER (kcell (c, 0)) 0 ∅ 0 ∗ cred (tallyAt (kcell (c, 0)) () 7) ∗ bigSep (others c) (rsTok (F := F) c) ∗ (∀ v, S4 m ρ c -∗ Q v))
      ⊢ wpc c (k0_part4 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 barArr (k0_pay1 (xstg m ρ c))) Q := by
  rw [k0_part4_eq_skeleton]; unfold k0_part4_skel
  simp only [semSignalWord, semWaitWord, Prog.lift, Prog.bind_op, Prog.bind_ret, Prog.pure_eq_ret, wp_deviceId]
  rw [remS_7]
  unfold SGst
  rw [show oSig c ∅ = 0 from Finset.sum_empty, zero_add]
  iintro ⟨#HR, ⟨-, HO⟩, ⟨%fb, Hb⟩, ⟨%fr, Hr⟩, Hat, Hc, Ht, HQ⟩
  iapply (load_b_whole c fb) $$ Hb; iintro Hb
  iapply (store_b_whole c fb (XBF m ρ c)) $$ Hb; iintro Hb
  iapply (load_b c c (XBF m ρ c) Finset.univ (Finset.subset_univ _) _ (off1 c)) $$ Hb; iintro Hb
  iapply (load_r c c fr (reg c) (Finset.Subset.refl _) _ (off1 c)) $$ Hr; iintro Hr
  iapply (store_r c c fr (RSB m ρ c) _ (pay3_eq m ρ c) _ (off1 c)) $$ Hr; iintro Hr
  iapply (wait_last_rule m ρ K c 0 ∅ (Finset.empty_subset _) 0 7 rfl (oRs c (others c) + oAg c (others c))
    (Or.inl ((above_oRs c _).add ((above_oAg c _).mono (by decide)))) (wpE_semWait_eq 𝒱₀ (c : Thread nD τ) none Set.univ)) $$ [HO Hat Hc]
  · isplitr; · iexact HR
    isplitl [HO]; · iexact HO
    isplitl [Hat]; · iexact Hat
    isplitr; · rw [sep_none]; iempintro
    iexact Hc
  iintro ⟨HO, HW⟩
  unfold Wdone
  icases HW with ⟨Hat, Hpay⟩
  ihave Hb' := (Entails.of_eq (bP_chunks c (XBF m ρ c))) $$ Hb
  icases Hb' with ⟨Hbc, Hbo⟩
  ihave H := (rs_gather m ρ c) $$ [Ht Hpay Hbo]
  · isplitl [Ht]; · iexact Ht
    isplitl [Hpay]; · iexact Hpay
    iexact Hbo
  icases H with ⟨Hrs, Ho⟩
  ihave HS := (rs_start m ρ c) $$ [HO Hrs]
  · isplitl [Hrs] <;> iassumption
  iapply (rs_step m ρ K c (dx c 6) (rem c 0) (rem c 1) (oAg c (others c)) 0 (rem_step c 0) (rem_not c 0) (dx_others c 0) _ (dev8 c) _ _ (off3 c 5) (off2 c)
    _ ((rsK_far c).symm ▸ rfl)) $$ [HS]
  · isplitr; · iexact HR
    iexact HS
  iintro HS
  iapply (rs_step m ρ K c (dx c 5) (rem c 1) (rem c 2) (oAg c (others c)) 1 (rem_step c 1) (rem_not c 1) (dx_others c 1) _ (dev9 c) _ _ (off3 c 4) (off2 c)
    _ ((rsK_mid5 c).symm ▸ rfl)) $$ [HS]
  · isplitr; · iexact HR
    iexact HS
  iintro HS
  iapply (wpc_ret (F := F) c)
  iapply HQ
  unfold S4
  isplitl [HS]; · iexact HS
  isplitl [Hbc]; · iexact Hbc
  isplitl [Hr]; · iexact Hr
  isplitl [Ho] <;> iassumption

theorem part5_run (c : Dev nD) (v2 v125 x : BitVec 32) (Q : (Σ' (v129 : BitVec 32) (v136 : BitVec 32) (v143 : BitVec 32) (v150 : BitVec 32) (v153 : BitVec 32), BitVec 32) → sProp 𝕄) :
    iprop(Recs m ρ K ∗ RSst m ρ c (rem c 2) (oAg c (others c)) 2 ∗ (∀ v, RSst m ρ c (rem c 6) (oAg c (others c)) 6 -∗ Q v))
      ⊢ wpc c (k0_part5 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 v125 x) Q := by
  rw [k0_part5_eq_skeleton]; unfold k0_part5_skel
  simp only [semSignalWord, semWaitWord, Prog.lift, Prog.bind_op, Prog.bind_ret, Prog.pure_eq_ret, wp_deviceId]
  iintro ⟨#HR, HS, HQ⟩
  iapply (rs_step m ρ K c (dx c 7) (rem c 2) (rem c 3) (oAg c (others c)) 2 (rem_step c 2) (rem_not c 2) (dx_others c 2) _ (dev10 c) _ _ (off3 c 6) (off2 c)
    _ ((rsK_mid7 c).symm ▸ rfl)) $$ [HS]
  · isplitr; · iexact HR
    iexact HS
  iintro HS
  iapply (rs_step m ρ K c (dx c 2) (rem c 3) (rem c 4) (oAg c (others c)) 3 (rem_step c 3) (rem_not c 3) (dx_others c 3) _ (dev11 c) _ _ (off3 c 1) (off2 c)
    _ ((rsK_mid2 c).symm ▸ rfl)) $$ [HS]
  · isplitr; · iexact HR
    iexact HS
  iintro HS
  iapply (rs_step m ρ K c (dx c 1) (rem c 4) (rem c 5) (oAg c (others c)) 4 (rem_step c 4) (rem_not c 4) (dx_others c 4) _ (dev12 c) _ _ (off3 c 0) (off2 c)
    _ ((rsK_near1 c).symm ▸ rfl)) $$ [HS]
  · isplitr; · iexact HR
    iexact HS
  iintro HS
  iapply (rs_step m ρ K c (dx c 3) (rem c 5) (rem c 6) (oAg c (others c)) 5 (rem_step c 5) (rem_not c 5) (dx_others c 5) _ (dev13 c) _ _ (off3 c 2) (off2 c)
    _ ((rsK_near3 c).symm ▸ rfl)) $$ [HS]
  · isplitr; · iexact HR
    iexact HS
  iintro HS
  iapply (wpc_ret (F := F) c)
  iapply HQ; iexact HS

/-- Before the first wait on a cell, all its receipts in hand. -/
theorem wst_start (c : Dev nD) (k : Fin 7) :
    iprop(atPos ER (kcell (c, k)) 0 ∅ 0 ∗ cred (tallyAt (kcell (c, k)) () (cnt k * N))) ⊢ Wst m ρ c k 0 := by
  unfold Wst
  rw [Nat.zero_mul, Nat.sub_zero]
  iintro ⟨Hat, Hc⟩
  iexists ∅
  isplitr; · ipureintro; exact Finset.empty_subset _
  isplitl [Hat]; · iexact Hat
  isplitr; · rw [sep_none]; iempintro
  iexact Hc

theorem rs_end (c : Dev nD) :
    RSst m ρ c (rem c 7) (oAg c (others c)) 7 ⊢ iprop(Ow (F := F) c (oAg c (others c)) ∗ cred (tallyAt (kcell (c, 1)) () (cnt 1 * N))) := by
  unfold RSst
  rw [rem_7, show oRs c ∅ = 0 from Finset.sum_empty, zero_add]
  iintro ⟨-, HO, Hc⟩
  isplitl [HO]; · iexact HO
  iexact Hc

/-- The credit of a chunk is the same in every buffer. -/
theorem cr_r (off : Fin 2 → ℕ) (b : ∀ a, off a + S32x256.size a ≤ S256x256.size a) :
    ((rM : Memref sig .tc .vmem S256x256 .bf16).slice (Rect.unit (s := S256x256) off S32x256.size b) (fun _ => rfl)).view.dmaCredit = N := rfl
theorem cr_o (off : Fin 2 → ℕ) (b : ∀ a, off a + S32x256.size a ≤ S256x256.size a) :
    ((oM : Memref sig .tc .vmem S256x256 .bf16).slice (Rect.unit (s := S256x256) off S32x256.size b) (fun _ => rfl)).view.dmaCredit = N := rfl
theorem cr_b (off : Fin 2 → ℕ) (b : ∀ a, off a + S32x256.size a ≤ S256x256.size a) :
    ((bM : Memref sig .tc .vmem S256x256 .bf16).slice (Rect.unit (s := S256x256) off S32x256.size b) (fun _ => rfl)).view.dmaCredit = N := rfl
theorem cr_m : (mM : Memref sig .tc .vmem S32x256 .bf16).view.dmaCredit = N := rfl

/-- A wait for one chunk on cell `k`, not its last. -/
theorem chunk_step (c : Dev nD) (k : Fin 7) (sem : DmaSem sig) (hsem : csem k = .dma sem) (hk : k ≠ 0) (j : ℕ) (hj : j + 1 ≤ cnt k)
    (O : CellTallies nD τ sig Unit) (hO : Above (lk (some k)) O ∨ O = 0) {s s' : Shape} {e e' : EltTy} {sp sp' : Space}
    {src : Memref sig .tc sp' s' e'} {dst : Memref sig .tc sp s e} (hcr : dst.view.dmaCredit = N) {hsrc : src.view.WordExact} {hdst : dst.view.WordExact}
    {α : Type} {Q : α → sProp 𝕄} {kk : PUnit → Prog (TpuEff nD τ sig (Elt F) Λ₀ .tc) α} :
    iprop(Recs m ρ K ∗ Ow c O ∗ Wst m ρ c k j)
      ⊢ iprop(((Ow c O ∗ Wst m ρ c k (j + 1)) -∗ wpc c (kk ⟨⟩) Q) -∗ wpc c (.op (.waitDma2 sem src dst hsrc hdst) kk) Q) :=
  wait_step m ρ K c k hk j hj O hO (fun X => by
    rw [hsem, ← hcr]; exact wpE_waitDma2_eq 𝒱₀ (c : Thread nD τ) none Set.univ X)
/-- The last one. -/
theorem chunk_last (c : Dev nD) (k : Fin 7) (sem : DmaSem sig) (hsem : csem k = .dma sem) (hk : k ≠ 0) (j : ℕ) (hj : j + 1 = cnt k)
    (O : CellTallies nD τ sig Unit) (hO : Above (lk (some k)) O ∨ O = 0) {s s' : Shape} {e e' : EltTy} {sp sp' : Space}
    {src : Memref sig .tc sp' s' e'} {dst : Memref sig .tc sp s e} (hcr : dst.view.dmaCredit = N) {hsrc : src.view.WordExact} {hdst : dst.view.WordExact}
    {α : Type} {Q : α → sProp 𝕄} {kk : PUnit → Prog (TpuEff nD τ sig (Elt F) Λ₀ .tc) α} :
    iprop(Recs m ρ K ∗ Ow c O ∗ Wst m ρ c k j)
      ⊢ iprop(((Ow c O ∗ Wdone m ρ c k) -∗ wpc c (kk ⟨⟩) Q) -∗ wpc c (.op (.waitDma2 sem src dst hsrc hdst) kk) Q) :=
  wait_last m ρ K c k hk j hj O hO (fun X => by
    rw [hsem, ← hcr]; exact wpE_waitDma2_eq 𝒱₀ (c : Thread nD τ) none Set.univ X)

theorem rsK_symm (c s : Dev nD) : rsK s c = rsK c s := by revert c s; decide

theorem part6_run (c : Dev nD) (v2 v136 v143 v150 v153 x : BitVec 32) (Q : FVec F S32x256 .bf16 → sProp 𝕄) :
    iprop(Recs m ρ K ∗ RSst m ρ c (rem c 6) (oAg c (others c)) 6 ∗ rP c (reg c) (RSB m ρ c) ∗ Wst m ρ c 2 0
        ∗ ((Ow c (oAg c (others c)) ∗ cred (tallyAt (kcell (c, 1)) () (cnt 1 * N)) ∗ rP c (reg c) (RSB m ρ c) ∗ Wdone m ρ c 2) -∗ Q (acc1 m ρ c)))
      ⊢ wpc c (k0_part6 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 v136 v143 v150 v153 x) Q := by
  rw [k0_part6_eq_skeleton]; unfold k0_part6_skel acc1
  simp only [semSignalWord, semWaitWord, Prog.lift, Prog.bind_op, Prog.bind_ret, Prog.pure_eq_ret, wp_deviceId]
  iintro ⟨#HR, HS, Hr, HW, HQ⟩
  iapply (rs_step m ρ K c (dx c 4) (rem c 6) (rem c 7) (oAg c (others c)) 6 (rem_step c 6) (rem_not c 6) (dx_others c 6) _ (dev14 c) _ _ (off3 c 3) (off2 c)
    _ ((rsK_near4 c).symm ▸ rfl)) $$ [HS]
  · isplitr; · iexact HR
    iexact HS
  iintro HS
  ihave HS' := (rs_end m ρ c) $$ HS
  icases HS' with ⟨HO, Hc⟩
  iapply (load_r c c (RSB m ρ c) (reg c) (Finset.Subset.refl _) _ (off1 c)) $$ Hr; iintro Hr
  iapply (chunk_step m ρ K c 2 cc0_scratch4.sem rfl (by decide) 0 (by decide) (oAg c (others c)) (Or.inl ((above_oAg c _).mono (by decide))) (cr_r _ _)) $$ [HO HW]
  · isplitr; · iexact HR
    isplitl [HO] <;> iassumption
  iintro ⟨HO, HW⟩
  iapply (chunk_step m ρ K c 2 cc0_scratch4.sem rfl (by decide) 1 (by decide) (oAg c (others c)) (Or.inl ((above_oAg c _).mono (by decide))) (cr_r _ _)) $$ [HO HW]
  · isplitr; · iexact HR
    isplitl [HO] <;> iassumption
  iintro ⟨HO, HW⟩
  iapply (chunk_last m ρ K c 2 cc0_scratch4.sem rfl (by decide) 2 (by decide) (oAg c (others c)) (Or.inl ((above_oAg c _).mono (by decide))) (cr_r _ _)) $$ [HO HW]
  · isplitr; · iexact HR
    isplitl [HO] <;> iassumption
  iintro ⟨HO, HW⟩
  iapply (load_done m ρ c (dx c 1) 2 (rsK_symm c (dx c 1) ▸ rsK_near1 c) (dx_others c 4) _ (off4 c 0)) $$ HW
  iintro HW
  iapply (load_done m ρ c (dx c 3) 2 (rsK_symm c (dx c 3) ▸ rsK_near3 c) (dx_others c 5) _ (off4 c 2)) $$ HW
  iintro HW
  iapply (wpc_ret (F := F) c)
  iapply HQ
  isplitl [HO]; · iexact HO
  isplitl [Hc]; · iexact Hc
  isplitl [Hr] <;> iassumption

theorem part7_run (c : Dev nD) (v2 v108 v115 v122 v129 : BitVec 32) (Q : FVec F S32x256 .bf16 → sProp 𝕄) :
    iprop(Recs m ρ K ∗ Ow c (oAg c (others c)) ∗ Wdone m ρ c 2 ∗ Wst m ρ c 3 0
        ∗ ((Ow c (oAg c (others c)) ∗ Wdone m ρ c 2 ∗ Wdone m ρ c 3) -∗ Q (acc2 m ρ c)))
      ⊢ wpc c (k0_part7 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 v108 v115 v122 v129 (acc1 m ρ c)) Q := by
  rw [k0_part7_eq_skeleton]; unfold k0_part7_skel acc2
  simp only [semSignalWord, semWaitWord, Prog.lift, Prog.bind_op, Prog.bind_ret, Prog.pure_eq_ret, wp_deviceId]
  iintro ⟨#HR, HO, H2, HW, HQ⟩
  iapply (load_done m ρ c (dx c 4) 2 (rsK_symm c (dx c 4) ▸ rsK_near4 c) (dx_others c 6) _ (off4 c 3)) $$ H2
  iintro H2
  iapply (chunk_step m ρ K c 3 cc0_scratch5.sem rfl (by decide) 0 (by decide) (oAg c (others c)) (Or.inl ((above_oAg c _).mono (by decide))) (cr_r _ _)) $$ [HO HW]
  · isplitr; · iexact HR
    isplitl [HO] <;> iassumption
  iintro ⟨HO, HW⟩
  iapply (chunk_step m ρ K c 3 cc0_scratch5.sem rfl (by decide) 1 (by decide) (oAg c (others c)) (Or.inl ((above_oAg c _).mono (by decide))) (cr_r _ _)) $$ [HO HW]
  · isplitr; · iexact HR
    isplitl [HO] <;> iassumption
  iintro ⟨HO, HW⟩
  iapply (chunk_last m ρ K c 3 cc0_scratch5.sem rfl (by decide) 2 (by decide) (oAg c (others c)) (Or.inl ((above_oAg c _).mono (by decide))) (cr_r _ _)) $$ [HO HW]
  · isplitr; · iexact HR
    isplitl [HO] <;> iassumption
  iintro ⟨HO, HW⟩
  iapply (load_done m ρ c (dx c 5) 3 (rsK_symm c (dx c 5) ▸ rsK_mid5 c) (dx_others c 1) _ (off4 c 4)) $$ HW
  iintro HW
  iapply (load_done m ρ c (dx c 7) 3 (rsK_symm c (dx c 7) ▸ rsK_mid7 c) (dx_others c 2) _ (off4 c 6)) $$ HW
  iintro HW
  iapply (load_done m ρ c (dx c 2) 3 (rsK_symm c (dx c 2) ▸ rsK_mid2 c) (dx_others c 3) _ (off4 c 1)) $$ HW
  iintro HW
  iapply (wpc_ret (F := F) c)
  iapply HQ
  isplitl [HO]; · iexact HO
  isplitl [H2] <;> iassumption

end Cert.AllReduce
-- ==== Proof.BodyB.lean ====
/-
The all-reduce over eight devices, part seven: the body's parts eight to ten — the last chunk added, the reduced chunk
handed round — and the body as a whole.
-/
module

public import proofs.«01_k».proof.Proof.BodyA

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-- The tokens of `c`'s gather. -/
def agTok (c p : Dev nD) : sProp 𝕄 := iprop(dutyTok ER (kcell (c, 5)) 0 p ∗ dutyTok ER (kcell (p, 6)) 0 c)

/-- Before the first transfer of the gather. -/
theorem ag_start (c : Dev nD) :
    iprop(bigSep (others c) (agTok (F := F) c) ∗ (bigSep (others c) fun p => iprop(∃ f, oP (F := F) p (reg c) f)) ∗ mP c fullShare (MINE m ρ c)
        ∗ Ow c (oAg c (others c)))
      ⊢ iprop(AGst m ρ c (rem c 0) 0 ∗ mP c (qOf c) (MINE m ρ c)) := by
  unfold AGst
  rw [rem_0, Nat.zero_mul, tallyAt_zero, cred_zero, mP_shares]
  iintro ⟨Ht, Ho, ⟨Hm, Hs⟩, HO⟩
  isplitr [Hm]
  · isplitr [HO]
    · have h : iprop(bigSep (others c) (agTok (F := F) c) ∗ (bigSep (others c) fun p => iprop(∃ f, oP (F := F) p (reg c) f))
          ∗ bigSep (others c) fun d => mP c (qOf d) (MINE m ρ c)) ⊢ bigSep (others c) (agRes m ρ c) := by
        rw [← sep_both, ← sep_both]
        refine BI.bigSep_mono fun p _ => ?_
        show iprop(agTok c p ∗ (∃ f, oP (F := F) p (reg c) f) ∗ mP c (qOf p) (MINE m ρ c)) ⊢ agRes m ρ c p
        unfold agTok agRes
        iintro ⟨⟨H1, H2⟩, Ho, Hm⟩
        isplitl [H1]; · iexact H1
        isplitl [H2]; · iexact H2
        isplitl [Ho] <;> iassumption
      iapply h
      isplitl [Ht]; · iexact Ht
      isplitl [Ho] <;> iassumption
    · isplitl [HO]; · iexact HO
      iempintro
  · iexact Hm

theorem ag_end (c : Dev nD) :
    AGst m ρ c (rem c 7) 7 ⊢ iprop(Ow (F := F) c 0 ∗ cred (tallyAt (kcell (c, 5)) () (cnt 5 * N))) := by
  unfold AGst
  rw [rem_7, show oAg c ∅ = 0 from Finset.sum_empty]
  iintro ⟨-, HO, Hc⟩
  isplitl [HO]; · iexact HO
  iexact Hc

theorem part8_run (c : Dev nD) (v2 : BitVec 32) (Q : (Σ' (v226 : BitVec 32) (v231 : BitVec 32) (v236 : BitVec 32), BitVec 32) → sProp 𝕄) :
    iprop(Recs m ρ K ∗ Ow c (oAg c (others c)) ∗ Wst m ρ c 4 0 ∗ (∃ f, mP (F := F) c fullShare f) ∗ bigSep (others c) (agTok (F := F) c)
        ∗ (bigSep (others c) fun p => iprop(∃ f, oP (F := F) p (reg c) f))
        ∗ (∀ v, (AGst m ρ c (rem c 4) 4 ∗ mP c (qOf c) (MINE m ρ c) ∗ Wdone m ρ c 4) -∗ Q v))
      ⊢ wpc c (k0_part8 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 (acc2 m ρ c)) Q := by
  rw [k0_part8_eq_skeleton]; unfold k0_part8_skel
  simp only [semSignalWord, semWaitWord, Prog.lift, Prog.bind_op, Prog.bind_ret, Prog.pure_eq_ret, wp_deviceId]
  iintro ⟨#HR, HO, HW, ⟨%fm, Hm⟩, Ht, Ho, HQ⟩
  iapply (chunk_last m ρ K c 4 cc0_scratch6.sem rfl (by decide) 0 (by decide) (oAg c (others c)) (Or.inl ((above_oAg c _).mono (by decide))) (cr_r _ _)) $$ [HO HW]
  · isplitr; · iexact HR
    isplitl [HO] <;> iassumption
  iintro ⟨HO, HW⟩
  iapply (load_done m ρ c (dx c 6) 4 (rsK_symm c (dx c 6) ▸ rsK_far c) (dx_others c 0) _ (off4 c 5)) $$ HW
  iintro HW
  iapply (load_m c fullShare fm) $$ Hm; iintro Hm
  iapply (store_m c fm (k0_pay6 (F := F) (acc2 m ρ c) (part (dx c 6) (RSB m ρ c)))) $$ Hm; iintro Hm
  ihave H := (ag_start m ρ c) $$ [HO Ht Ho Hm]
  · isplitl [Ht]; · iexact Ht
    isplitl [Ho]; · iexact Ho
    isplitl [Hm]; · iexact Hm
    iexact HO
  icases H with ⟨HS, Hm⟩
  iapply (ag_step m ρ K c (dx c 6) (rem c 0) (rem c 1) 0 (rem_step c 0) (rem_not c 0) (dx_others c 0) _ (dev15 c) _ (off2 c)) $$ [HS]
  · isplitr; · iexact HR
    iexact HS
  iintro HS
  iapply (ag_step m ρ K c (dx c 5) (rem c 1) (rem c 2) 1 (rem_step c 1) (rem_not c 1) (dx_others c 1) _ (dev16 c) _ (off2 c)) $$ [HS]
  · isplitr; · iexact HR
    iexact HS
  iintro HS
  iapply (ag_step m ρ K c (dx c 7) (rem c 2) (rem c 3) 2 (rem_step c 2) (rem_not c 2) (dx_others c 2) _ (dev17 c) _ (off2 c)) $$ [HS]
  · isplitr; · iexact HR
    iexact HS
  iintro HS
  iapply (ag_step m ρ K c (dx c 2) (rem c 3) (rem c 4) 3 (rem_step c 3) (rem_not c 3) (dx_others c 3) _ (dev18 c) _ (off2 c)) $$ [HS]
  · isplitr; · iexact HR
    iexact HS
  iintro HS
  iapply (wpc_ret (F := F) c)
  iapply HQ
  isplitl [HS]; · iexact HS
  isplitl [Hm] <;> iassumption

theorem part9_run (c : Dev nD) (v2 v226 v231 v236 : BitVec 32) (Q : (Σ' (v246 : BitVec 32) (v251 : BitVec 32), BitVec 32) → sProp 𝕄) :
    iprop(Recs m ρ K ∗ AGst m ρ c (rem c 4) 4 ∗ mP c (qOf c) (MINE m ρ c) ∗ (∃ f, oP (F := F) c (reg c) f) ∗ Wst m ρ c 6 0
        ∗ (∀ v, (Ow c 0 ∗ cred (tallyAt (kcell (c, 5)) () (cnt 5 * N)) ∗ mP c (qOf c) (MINE m ρ c) ∗ oP c (reg c) (OUTB m ρ) ∗ Wst m ρ c 6 2) -∗ Q v))
      ⊢ wpc c (k0_part9 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v2 v226 v231 v236) Q := by
  rw [k0_part9_eq_skeleton]; unfold k0_part9_skel
  simp only [semSignalWord, semWaitWord, Prog.lift, Prog.bind_op, Prog.bind_ret, Prog.pure_eq_ret, wp_deviceId]
  iintro ⟨#HR, HS, Hm, ⟨%fo, Ho⟩, HW, HQ⟩
  iapply (ag_step m ρ K c (dx c 1) (rem c 4) (rem c 5) 4 (rem_step c 4) (rem_not c 4) (dx_others c 4) _ (dev19 c) _ (off2 c)) $$ [HS]
  · isplitr; · iexact HR
    iexact HS
  iintro HS
  iapply (ag_step m ρ K c (dx c 3) (rem c 5) (rem c 6) 5 (rem_step c 5) (rem_not c 5) (dx_others c 5) _ (dev20 c) _ (off2 c)) $$ [HS]
  · isplitr; · iexact HR
    iexact HS
  iintro HS
  iapply (ag_step m ρ K c (dx c 4) (rem c 6) (rem c 7) 6 (rem_step c 6) (rem_not c 6) (dx_others c 6) _ (dev21 c) _ (off2 c)) $$ [HS]
  · isplitr; · iexact HR
    iexact HS
  iintro HS
  ihave HS' := (ag_end m ρ c) $$ HS
  icases HS' with ⟨HO, Hc⟩
  iapply (load_m c (qOf c) (MINE m ρ c)) $$ Hm; iintro Hm
  iapply (load_o c c fo (reg c) (Finset.Subset.refl _) _ (off1 c)) $$ Ho; iintro Ho
  iapply (store_o c c fo (OUTB m ρ) _ (part_OUTB m ρ c).symm _ (off1 c)) $$ Ho; iintro Ho
  iapply (chunk_step m ρ K c 6 cc0_scratch8.sem rfl (by decide) 0 (by decide) 0 (Or.inr rfl) (cr_o _ _)) $$ [HO HW]
  · isplitr; · iexact HR
    isplitl [HO] <;> iassumption
  iintro ⟨HO, HW⟩
  iapply (chunk_step m ρ K c 6 cc0_scratch8.sem rfl (by decide) 1 (by decide) 0 (Or.inr rfl) (cr_o _ _)) $$ [HO HW]
  · isplitr; · iexact HR
    isplitl [HO] <;> iassumption
  iintro ⟨HO, HW⟩
  iapply (wpc_ret (F := F) c)
  iapply HQ
  isplitl [HO]; · iexact HO
  isplitl [Hc]; · iexact Hc
  isplitl [Hm]; · iexact Hm
  isplitl [Ho] <;> iassumption

theorem part10_run (c : Dev nD) (v241 v246 v251 v256 : BitVec 32) (Q : PUnit → sProp 𝕄) :
    iprop(Recs m ρ K ∗ Ow c 0 ∗ Wst m ρ c 6 2 ∗ Wst m ρ c 1 0 ∗ ((Ow c 0 ∗ Wdone m ρ c 6 ∗ Wst m ρ c 1 4) -∗ Q ⟨⟩))
      ⊢ wpc c (k0_part10 (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8 c v241 v246 v251 v256) Q := by
  rw [k0_part10_eq_skeleton]; unfold k0_part10_skel
  simp only [semSignalWord, semWaitWord, Prog.lift, Prog.bind_op, Prog.bind_ret, Prog.pure_eq_ret, wp_deviceId]
  iintro ⟨#HR, HO, HW, H1, HQ⟩
  iapply (chunk_step m ρ K c 6 cc0_scratch8.sem rfl (by decide) 2 (by decide) 0 (Or.inr rfl) (cr_o _ _)) $$ [HO HW]
  · isplitr; · iexact HR
    isplitl [HO] <;> iassumption
  iintro ⟨HO, HW⟩
  iapply (chunk_step m ρ K c 6 cc0_scratch8.sem rfl (by decide) 3 (by decide) 0 (Or.inr rfl) (cr_o _ _)) $$ [HO HW]
  · isplitr; · iexact HR
    isplitl [HO] <;> iassumption
  iintro ⟨HO, HW⟩
  iapply (chunk_step m ρ K c 6 cc0_scratch8.sem rfl (by decide) 4 (by decide) 0 (Or.inr rfl) (cr_o _ _)) $$ [HO HW]
  · isplitr; · iexact HR
    isplitl [HO] <;> iassumption
  iintro ⟨HO, HW⟩
  iapply (chunk_step m ρ K c 6 cc0_scratch8.sem rfl (by decide) 5 (by decide) 0 (Or.inr rfl) (cr_o _ _)) $$ [HO HW]
  · isplitr; · iexact HR
    isplitl [HO] <;> iassumption
  iintro ⟨HO, HW⟩
  iapply (chunk_last m ρ K c 6 cc0_scratch8.sem rfl (by decide) 6 (by decide) 0 (Or.inr rfl) (cr_o _ _)) $$ [HO HW]
  · isplitr; · iexact HR
    isplitl [HO] <;> iassumption
  iintro ⟨HO, HW⟩
  iapply (chunk_step m ρ K c 1 cc0_scratch3.sem rfl (by decide) 0 (by decide) 0 (Or.inr rfl) (cr_b _ _)) $$ [HO H1]
  · isplitr; · iexact HR
    isplitl [HO] <;> iassumption
  iintro ⟨HO, H1⟩
  iapply (chunk_step m ρ K c 1 cc0_scratch3.sem rfl (by decide) 1 (by decide) 0 (Or.inr rfl) (cr_b _ _)) $$ [HO H1]
  · isplitr; · iexact HR
    isplitl [HO] <;> iassumption
  iintro ⟨HO, H1⟩
  iapply (chunk_step m ρ K c 1 cc0_scratch3.sem rfl (by decide) 2 (by decide) 0 (Or.inr rfl) (cr_b _ _)) $$ [HO H1]
  · isplitr; · iexact HR
    isplitl [HO] <;> iassumption
  iintro ⟨HO, H1⟩
  iapply (chunk_step m ρ K c 1 cc0_scratch3.sem rfl (by decide) 3 (by decide) 0 (Or.inr rfl) (cr_b _ _)) $$ [HO H1]
  · isplitr; · iexact HR
    isplitl [HO] <;> iassumption
  iintro ⟨HO, H1⟩
  iapply (wpc_ret (F := F) c)
  iapply HQ
  isplitl [HO]; · iexact HO
  isplitl [HW] <;> iassumption

/-- What the body is given beside the records: the tokens, its memory, its places in the cells and its receipts. -/
def Start (c : Dev nD) : sProp 𝕄 :=
  iprop(SGst c (remS c 0) (oRs c (others c) + oAg c (others c)) ∗ xP m ρ c ∗ (∃ f, bP (F := F) c Finset.univ f) ∗ (∃ f, rP (F := F) c (reg c) f)
    ∗ (∃ f, mP (F := F) c fullShare f) ∗ (∃ f, oP (F := F) c (reg c) f)
    ∗ atPos ER (kcell (c, 0)) 0 ∅ 0 ∗ cred (tallyAt (kcell (c, 0)) () 7) ∗ atPos ER (kcell (c, 1)) 0 ∅ 0 ∗ atPos ER (kcell (c, 5)) 0 ∅ 0
    ∗ Wst m ρ c 2 0 ∗ Wst m ρ c 3 0 ∗ Wst m ρ c 4 0 ∗ Wst m ρ c 6 0
    ∗ bigSep (others c) (rsTok (F := F) c) ∗ bigSep (others c) (agTok (F := F) c))

/-- What the body leaves. -/
def Finish (c : Dev nD) : sProp 𝕄 :=
  iprop(Ow c 0 ∗ xP m ρ c ∗ bP c (reg c) (XBF m ρ c) ∗ rP c (reg c) (RSB m ρ c) ∗ mP c (qOf c) (MINE m ρ c) ∗ oP c (reg c) (OUTB m ρ)
    ∗ atPos ER (kcell (c, 0)) 1 ∅ 0 ∗ Wdone m ρ c 1 ∗ Wdone m ρ c 2 ∗ Wdone m ρ c 3 ∗ Wdone m ρ c 4 ∗ Wdone m ρ c 5 ∗ Wdone m ρ c 6)

theorem wpc_ret_fupd (c : Dev nD) {α : Type} (a : α) (Q : α → sProp 𝕄) : (|={Set.univ}=> Q a) ⊢ wpc c (.ret a) Q := by
  unfold wpc
  rw [wp_ret]

theorem body_run (c : Dev nD) (Q : PUnit → sProp 𝕄) :
    iprop(Recs m ρ K ∗ Start m ρ c ∗ (Finish m ρ c -∗ |={Set.univ}=> Q ⟨⟩))
      ⊢ wpc c (cc0_body (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8) Q := by
  rw [cc0_body_eq_skeleton]; unfold cc0_body_skel Start
  iintro ⟨#HR, ⟨HS, Hx, Hb, Hr, Hm, Ho, Hat0, Hc0, Hat1, Hat5, H2, H3, H4, H6, Hrs, Hag⟩, HQ⟩
  iapply (wpc_bind c)
  iapply (part1_run m ρ K c)
  isplitr; · iexact HR
  isplitl [HS]; · iexact HS
  iintro %v2 %v30 %v31 HS
  iapply (wpc_bind c)
  iapply (part2_run m ρ K c _ _ _ 0#32)
  isplitr; · iexact HR
  isplitl [HS]; · iexact HS
  iintro %w1 HS
  iapply (wpc_bind c)
  iapply (part3_run m ρ K c)
  isplitr; · iexact HR
  isplitl [HS]; · iexact HS
  isplitl [Hx]; · iexact Hx
  iintro ⟨HS, Hx⟩
  iapply (wpc_bind c)
  iapply (part4_run m ρ K c)
  isplitr; · iexact HR
  isplitl [HS]; · iexact HS
  isplitl [Hb]; · iexact Hb
  isplitl [Hr]; · iexact Hr
  isplitl [Hat0]; · iexact Hat0
  isplitl [Hc0]; · iexact Hc0
  isplitl [Hrs]; · iexact Hrs
  unfold S4
  iintro %w2 ⟨HS, Hb, Hr, Hoo, Hat0⟩
  iapply (wpc_bind c)
  iapply (part5_run m ρ K c)
  isplitr; · iexact HR
  isplitl [HS]; · iexact HS
  iintro %w3 HS
  iapply (wpc_bind c)
  iapply (part6_run m ρ K c)
  isplitr; · iexact HR
  isplitl [HS]; · iexact HS
  isplitl [Hr]; · iexact Hr
  isplitl [H2]; · iexact H2
  iintro ⟨HO, Hc1, Hr, H2⟩
  iapply (wpc_bind c)
  iapply (part7_run m ρ K c)
  isplitr; · iexact HR
  isplitl [HO]; · iexact HO
  isplitl [H2]; · iexact H2
  isplitl [H3]; · iexact H3
  iintro ⟨HO, H2, H3⟩
  iapply (wpc_bind c)
  iapply (part8_run m ρ K c)
  isplitr; · iexact HR
  isplitl [HO]; · iexact HO
  isplitl [H4]; · iexact H4
  isplitl [Hm]; · iexact Hm
  isplitl [Hag]; · iexact Hag
  isplitl [Hoo]; · iexact Hoo
  iintro %w4 ⟨HS, Hm, H4⟩
  iapply (wpc_bind c)
  iapply (part9_run m ρ K c)
  isplitr; · iexact HR
  isplitl [HS]; · iexact HS
  isplitl [Hm]; · iexact Hm
  isplitl [Ho]; · iexact Ho
  isplitl [H6]; · iexact H6
  iintro %w5 ⟨HO, Hc5, Hm, Ho, H6⟩
  ihave H1 := (wst_start m ρ c 1) $$ [Hat1 Hc1]
  · isplitl [Hat1] <;> iassumption
  ihave H5 := (wst_start m ρ c 5) $$ [Hat5 Hc5]
  · isplitl [Hat5] <;> iassumption
  iapply (wpc_bind c)
  iapply (part10_run m ρ K c)
  isplitr; · iexact HR
  isplitl [HO]; · iexact HO
  isplitl [H6]; · iexact H6
  isplitl [H1]; · iexact H1
  iintro ⟨HO, H6, HW⟩
  simp only [semSignalWord, semWaitWord, Prog.lift, Prog.bind_op, Prog.bind_ret, Prog.pure_eq_ret, wp_deviceId]
  iapply (chunk_step m ρ K c 1 cc0_scratch3.sem rfl (by decide) 4 (by decide) 0 (Or.inr rfl) (cr_b _ _)) $$ [HO HW]
  · isplitr; · iexact HR
    isplitl [HO] <;> iassumption
  iintro ⟨HO, HW⟩
  iapply (chunk_step m ρ K c 1 cc0_scratch3.sem rfl (by decide) 5 (by decide) 0 (Or.inr rfl) (cr_b _ _)) $$ [HO HW]
  · isplitr; · iexact HR
    isplitl [HO] <;> iassumption
  iintro ⟨HO, HW⟩
  iapply (chunk_last m ρ K c 1 cc0_scratch3.sem rfl (by decide) 6 (by decide) 0 (Or.inr rfl) (cr_b _ _)) $$ [HO HW]
  · isplitr; · iexact HR
    isplitl [HO] <;> iassumption
  iintro ⟨HO, HW⟩
  iapply (chunk_step m ρ K c 5 cc0_scratch7.sem rfl (by decide) 0 (by decide) 0 (Or.inr rfl) cr_m) $$ [HO H5]
  · isplitr; · iexact HR
    isplitl [HO] <;> iassumption
  iintro ⟨HO, H5⟩
  iapply (chunk_step m ρ K c 5 cc0_scratch7.sem rfl (by decide) 1 (by decide) 0 (Or.inr rfl) cr_m) $$ [HO H5]
  · isplitr; · iexact HR
    isplitl [HO] <;> iassumption
  iintro ⟨HO, H5⟩
  iapply (chunk_step m ρ K c 5 cc0_scratch7.sem rfl (by decide) 2 (by decide) 0 (Or.inr rfl) cr_m) $$ [HO H5]
  · isplitr; · iexact HR
    isplitl [HO] <;> iassumption
  iintro ⟨HO, H5⟩
  iapply (chunk_step m ρ K c 5 cc0_scratch7.sem rfl (by decide) 3 (by decide) 0 (Or.inr rfl) cr_m) $$ [HO H5]
  · isplitr; · iexact HR
    isplitl [HO] <;> iassumption
  iintro ⟨HO, H5⟩
  iapply (chunk_step m ρ K c 5 cc0_scratch7.sem rfl (by decide) 4 (by decide) 0 (Or.inr rfl) cr_m) $$ [HO H5]
  · isplitr; · iexact HR
    isplitl [HO] <;> iassumption
  iintro ⟨HO, H5⟩
  iapply (chunk_step m ρ K c 5 cc0_scratch7.sem rfl (by decide) 5 (by decide) 0 (Or.inr rfl) cr_m) $$ [HO H5]
  · isplitr; · iexact HR
    isplitl [HO] <;> iassumption
  iintro ⟨HO, H5⟩
  iapply (chunk_last m ρ K c 5 cc0_scratch7.sem rfl (by decide) 6 (by decide) 0 (Or.inr rfl) cr_m) $$ [HO H5]
  · isplitr; · iexact HR
    isplitl [HO] <;> iassumption
  iintro ⟨HO, H5⟩
  iapply (wpc_ret_fupd (F := F) c)
  iapply HQ
  unfold Finish
  isplitl [HO]; · iexact HO
  isplitl [Hx]; · iexact Hx
  isplitl [Hb]; · iexact Hb
  isplitl [Hr]; · iexact Hr
  isplitl [Hm]; · iexact Hm
  isplitl [Ho]; · iexact Ho
  isplitl [Hat0]; · iexact Hat0
  isplitl [HW]; · iexact HW
  isplitl [H2]; · iexact H2
  isplitl [H3]; · iexact H3
  isplitl [H4]; · iexact H4
  isplitl [H5] <;> iassumption

end Cert.AllReduce
-- ==== Proof.Ends.lean ====
/-
The all-reduce over eight devices, part eight: from what a device is launched with to what its body starts from, and
from what its body leaves to whole buffers and counters at zero.
-/
module

public import proofs.«01_k».proof.Proof.BodyB

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-! ## The tokens, minted for the device that pays with them -/

/-- Which cell's duty: of the pair of devices `e`, `p`, the five that `e` pays. -/
def tk (x : Dev nD × Dev nD × Fin 5) : (Dev nD × Fin 7) × Dev nD :=
  match x.2.2 with
  | 0 => ((x.2.1, 0), x.1)
  | 1 => ((x.1, 1), x.2.1)
  | 2 => ((x.2.1, rsK x.2.1 x.1), x.1)
  | 3 => ((x.1, 5), x.2.1)
  | 4 => ((x.2.1, 6), x.1)
/-- The pair and the number again, from the duty. -/
def tkInv (y : (Dev nD × Fin 7) × Dev nD) : Dev nD × Dev nD × Fin 5 :=
  match y.1.2 with
  | 0 => (y.2, y.1.1, 0)
  | 1 => (y.1.1, y.2, 1)
  | 2 => (y.2, y.1.1, 2)
  | 3 => (y.2, y.1.1, 2)
  | 4 => (y.2, y.1.1, 2)
  | 5 => (y.1.1, y.2, 3)
  | 6 => (y.2, y.1.1, 4)

theorem tkInv_tk (x : Dev nD × Dev nD × Fin 5) : tkInv (tk x) = x := by
  obtain ⟨e, p, j⟩ := x
  revert e p j; decide

def tokOf (x : Dev nD × Dev nD × Fin 5) : GSem nD τ sig × ℕ × Dev nD := (kcell (tk x).1, 0, (tk x).2)

theorem tokOf_inj : Function.Injective tokOf := fun a b h => by
  have h1 := kcell_inj (congrArg Prod.fst h)
  have h2 := congrArg (fun z : GSem nD τ sig × ℕ × Dev nD => z.2.2) h
  rw [← tkInv_tk a, ← tkInv_tk b]
  exact congrArg tkInv (Prod.ext h1 h2)

omit [FloatOps F] in
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- All the tokens device `c` pays with (and, unused, those of the pair of `c` with itself). -/
def toks (c : Dev nD) : sProp 𝕄 :=
  bigSep Finset.univ fun p : Dev nD => bigSep Finset.univ fun j : Fin 5 =>
    dutyTok ER (kcell (tk (c, p, j)).1) 0 (tk (c, p, j)).2

theorem toks_split (c : Dev nD) :
    toks (F := F) c ⊢ iprop((bigSep (others c) fun p => dutyTok ER (kcell (p, 0)) 0 c) ∗ bigSep (others c) (rsTok (F := F) c)
      ∗ bigSep (others c) (agTok (F := F) c)) := by
  unfold toks
  rw [univ_eq c, sep_ins (not_others c), ← sep_both, ← sep_both]
  have h : (bigSep (others c) fun p : Dev nD => bigSep Finset.univ fun j : Fin 5 => (dutyTok ER (kcell (tk (c, p, j)).1) 0 (tk (c, p, j)).2 : sProp 𝕄))
      ⊢ bigSep (others c) fun p => iprop(dutyTok ER (kcell (p, 0)) 0 c ∗ rsTok (F := F) c p ∗ agTok (F := F) c p) := by
    refine BI.bigSep_mono fun p _ => ?_
    rw [five]
    unfold rsTok agTok
    show iprop(dutyTok ER (kcell (p, 0)) 0 c ∗ dutyTok ER (kcell (c, 1)) 0 p ∗ dutyTok ER (kcell (p, rsK p c)) 0 c
      ∗ dutyTok ER (kcell (c, 5)) 0 p ∗ dutyTok ER (kcell (p, 6)) 0 c) ⊢ iprop(dutyTok ER (kcell (p, 0)) 0 c ∗ (dutyTok ER (kcell (c, 1)) 0 p
      ∗ dutyTok ER (kcell (p, rsK p c)) 0 c) ∗ dutyTok ER (kcell (c, 5)) 0 p ∗ dutyTok ER (kcell (p, 6)) 0 c)
    iintro ⟨H0, H1, H2, H3, H4⟩
    isplitl [H0]; · iexact H0
    isplitl [H1 H2]
    · isplitl [H1] <;> iassumption
    isplitl [H3] <;> iassumption
  iintro ⟨-, H⟩
  iapply h
  iexact H

/-! ## The start -/

/-- The receipts a device is launched with: what the others owe its cells. -/
def due (k : Fin 7) : ℕ := match k with | 0 => 7 | 1 => 0 | 2 => 3 * N | 3 => 3 * N | 4 => 1 * N | 5 => 0 | 6 => 7 * N

omit [FloatOps F] in
theorem rP_start (c : Dev nD) (f : S256x256.Idx → Elt F .bf16) :
    rP c Finset.univ f ⊢ iprop((∃ f, rP (F := F) c (reg c) f) ∗ bigSep (others c) fun p => iprop(∃ f, rP (F := F) c (reg p) f)) := by
  rw [rP_chunks]
  refine BI.sep_mono ?_ (BI.bigSep_mono fun p _ => ?_)
  · show rP c (reg c) f ⊢ iprop(∃ f, rP (F := F) c (reg c) f)
    iintro H; iexists f; iexact H
  · show rP c (reg p) f ⊢ iprop(∃ f, rP (F := F) c (reg p) f)
    iintro H; iexists f; iexact H
omit [FloatOps F] in
theorem oP_start (c : Dev nD) (f : S256x256.Idx → Elt F .bf16) :
    oP c Finset.univ f ⊢ iprop((∃ f, oP (F := F) c (reg c) f) ∗ bigSep (others c) fun p => iprop(∃ f, oP (F := F) c (reg p) f)) := by
  rw [oP_chunks]
  refine BI.sep_mono ?_ (BI.bigSep_mono fun p _ => ?_)
  · show oP c (reg c) f ⊢ iprop(∃ f, oP (F := F) c (reg c) f)
    iintro H; iexists f; iexact H
  · show oP c (reg p) f ⊢ iprop(∃ f, oP (F := F) c (reg p) f)
    iintro H; iexists f; iexact H

theorem start_of (c : Dev nD) :
    iprop((bigSep Finset.univ fun k : Fin 7 => atPos ER (kcell (c, k)) 0 ∅ 0) ∗ toks (F := F) c
        ∗ (bigSep Finset.univ fun k : Fin 7 => cred (tallyAt (kcell (c, k)) () (due k)))
        ∗ (∃ f, bP (F := F) c Finset.univ f) ∗ (∃ f, rP (F := F) c Finset.univ f) ∗ (∃ f, mP (F := F) c fullShare f)
        ∗ (∃ f, oP (F := F) c Finset.univ f) ∗ xP m ρ c ∗ Ow c (O₀ c))
      ⊢ Start m ρ c := by
  rw [seven, seven]
  iintro ⟨⟨A0, A1, A2, A3, A4, A5, A6⟩, Ht, ⟨C0, -, C2, C3, C4, -, C6⟩, Hb, ⟨%fr, Hr⟩, Hm, ⟨%fo, Ho⟩, Hx, HO⟩
  ihave Ht' := (toks_split (F := F) c) $$ Ht
  icases Ht' with ⟨Tb, Trs, Tag⟩
  ihave Hr' := (rP_start c fr) $$ Hr
  icases Hr' with ⟨Hr, Hro⟩
  ihave Ho' := (oP_start c fo) $$ Ho
  icases Ho' with ⟨Ho, Hoo⟩
  unfold Start SGst
  rw [remS_0]
  isplitl [Tb Hro Hoo HO]
  · isplitr [HO]
    · have h : iprop((bigSep (others c) fun p => dutyTok ER (kcell (p, 0)) 0 c) ∗ (bigSep (others c) fun p => iprop(∃ f, rP (F := F) c (reg p) f))
          ∗ bigSep (others c) fun p => iprop(∃ f, oP (F := F) c (reg p) f)) ⊢ bigSep (others c) (sigRes (F := F) c) := by
        rw [← sep_both, ← sep_both]
        exact BI.bigSep_mono fun p _ => BI.Entails.refl _
      iapply h
      isplitl [Tb]; · iexact Tb
      isplitl [Hro] <;> iassumption
    · iexact HO
  isplitl [Hx]; · iexact Hx
  isplitl [Hb]; · iexact Hb
  isplitl [Hr]; · iexact Hr
  isplitl [Hm]; · iexact Hm
  isplitl [Ho]; · iexact Ho
  isplitl [A0]; · iexact A0
  isplitl [C0]; · iexact C0
  isplitl [A1]; · iexact A1
  isplitl [A5]; · iexact A5
  isplitl [A2 C2]
  · iapply (wst_start m ρ c 2); isplitl [A2]; · iexact A2
    iexact C2
  isplitl [A3 C3]
  · iapply (wst_start m ρ c 3); isplitl [A3]; · iexact A3
    iexact C3
  isplitl [A4 C4]
  · iapply (wst_start m ρ c 4); isplitl [A4]; · iexact A4
    iexact C4
  isplitl [A6 C6]
  · iapply (wst_start m ρ c 6); isplitl [A6]; · iexact A6
    iexact C6
  isplitl [Trs] <;> iassumption

/-! ## The end -/

/-- Where the kernel's own memory and counters are after its body. -/
def Closed (c : Dev nD) : sProp 𝕄 :=
  iprop((∃ f, bP (F := F) c Finset.univ f) ∗ (∃ f, rP (F := F) c Finset.univ f) ∗ (∃ f, mP (F := F) c fullShare f)
    ∗ (bigSep Finset.univ fun k : Fin 6 => semVal ((c : Thread nD τ), osem k) 0) ∗ semVal (kcell (c, 0)) 0)

theorem close_cell (c : Dev nD) (k : Fin 7) :
    iprop(Recs m ρ K ∗ atPos ER (kcell (c, k)) 1 ∅ 0) ⊢ (|={Set.univ}=> semVal (kcell (c, k)) 0 : sProp 𝕄) := by
  iintro ⟨HR, Hat⟩
  ihave HI := (Recs_inv m ρ K c k) $$ HR
  iapply (Rounds.cell_close ER (sch m ρ) (Set.mem_univ (K (c, k))) (fun h => h) (R := 0 + 1) (duties_later m ρ (kcell (c, k))))
  isplitl [HI] <;> iassumption

/-- The others, sorted by the cell their chunk arrives at. -/
theorem others_parts (c : Dev nD) (Φ : Dev nD → sProp 𝕄) :
    iprop(bigSep (dk 2 c) Φ ∗ bigSep (dk 3 c) Φ ∗ bigSep (dk 4 c) Φ) ⊢ bigSep (others c) Φ := by
  rw [sep_split (s := others c) (t := dk 2 c) (by revert c; decide), sep_split (s := others c \ dk 2 c) (t := dk 3 c) (by revert c; decide),
    show (others c \ dk 2 c) \ dk 3 c = dk 4 c by revert c; decide]

theorem finish (c : Dev nD) :
    iprop(Recs m ρ K ∗ Finish m ρ c) ⊢ |={Set.univ}=> iprop(Ow c 0 ∗ xP m ρ c ∗ oP c Finset.univ (OUTB m ρ) ∗ Closed (F := F) c) := by
  unfold Finish Wdone
  iintro ⟨#HR, HO, Hx, Hb, Hr, Hm, Ho, A0, ⟨A1, B1⟩, ⟨A2, B2⟩, ⟨A3, B3⟩, ⟨A4, B4⟩, ⟨A5, B5⟩, ⟨A6, B6⟩⟩
  imod (close_cell m ρ K c 0) $$ [A0] with Z0
  · isplitr; · iexact HR
    iexact A0
  imod (close_cell m ρ K c 1) $$ [A1] with Z1
  · isplitr; · iexact HR
    iexact A1
  imod (close_cell m ρ K c 2) $$ [A2] with Z2
  · isplitr; · iexact HR
    iexact A2
  imod (close_cell m ρ K c 3) $$ [A3] with Z3
  · isplitr; · iexact HR
    iexact A3
  imod (close_cell m ρ K c 4) $$ [A4] with Z4
  · isplitr; · iexact HR
    iexact A4
  imod (close_cell m ρ K c 5) $$ [A5] with Z5
  · isplitr; · iexact HR
    iexact A5
  imod (close_cell m ρ K c 6) $$ [A6] with Z6
  · isplitr; · iexact HR
    iexact A6
  imodintro
  isplitl [HO]; · iexact HO
  isplitl [Hx]; · iexact Hx
  isplitl [Ho B6]
  · rw [oP_chunks]
    isplitl [Ho]; · iexact Ho
    iexact B6
  unfold Closed
  rw [six]
  isplitl [Hb B1]
  · iexists (XBF m ρ c)
    rw [bP_chunks]
    isplitl [Hb]; · iexact Hb
    iexact B1
  isplitl [Hr B2 B3 B4]
  · iexists (RSB m ρ c)
    rw [rP_chunks]
    isplitl [Hr]; · iexact Hr
    iapply (others_parts c fun d => rP c (reg d) (RSB m ρ c))
    isplitl [B2]; · iexact B2
    isplitl [B3]; · iexact B3
    iexact B4
  isplitl [Hm B5]
  · iexists (MINE m ρ c)
    rw [mP_shares]
    isplitl [Hm]; · iexact Hm
    iexact B5
  isplitr [Z0]
  · isplitl [Z1]; · iexact Z1
    isplitl [Z2]; · iexact Z2
    isplitl [Z3]; · iexact Z3
    isplitl [Z4]; · iexact Z4
    isplitl [Z5] <;> iassumption
  · iexact Z0

end Cert.AllReduce
-- ==== Proof.Launch.lean ====
/-
The all-reduce over eight devices, part nine: the launch. Every fair execution of the kernel's program on the eight
devices ends, with every device's result array at `OUTB`, the rows unchanged and every counter at zero.
-/
module

public import proofs.«01_k».proof.Proof.Ends
public import Idealize.ShloMosaic.Lib.Pipeline.CollectiveSegs

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel call's proof data -/

def t₀ : Fin cfg0.N := t0_0
theorem fin_N (t : Fin cfg0.N) : t = t₀ := fin_N0 t

/-- What all devices share, the level facts apart. -/
def Shared (K : Dev nD × Fin 7 → ℕ) : sProp 𝕄 :=
  iprop((bigSep Finset.univ fun ck : Dev nD × Fin 7 => cellInv ER (sch m ρ) (K ck) (kcell ck))
    ∗ (bigSep Finset.univ fun ck : Dev nD × Fin 7 => reached ER (kcell ck) 0))
instance Shared_persistent (K : Dev nD × Fin 7 → ℕ) : BI.Persistent (Shared m ρ K) := by unfold Shared; infer_instance

/-- A device's own places in the cells and its tokens. -/
def Own (c : Dev nD) : sProp 𝕄 := iprop((bigSep Finset.univ fun k : Fin 7 => atPos ER (kcell (c, k)) 0 ∅ 0) ∗ toks (F := F) c)

/-- What device `c` holds of the protocol after the global step. -/
def G' (c : Dev nD) : sProp 𝕄 := iprop(∃ K, Shared m ρ K ∗ Own (F := F) c)
/-- With its receipts and the level facts. -/
def Given (c : Dev nD) : sProp 𝕄 :=
  iprop(G' m ρ c ∗ (bigSep Finset.univ fun k : Fin 7 => cred (tallyAt (kcell (c, k)) () (due k))) ∗ levAts L lv)

/-- Before the body, and after it. -/
def Φ₀ (c : Dev nD) : sProp 𝕄 :=
  iprop(Given m ρ c ∗ (∃ f, bP (F := F) c Finset.univ f) ∗ (∃ f, rP (F := F) c Finset.univ f) ∗ (∃ f, mP (F := F) c fullShare f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUTB m ρ
  Φ t := match t with
    | ⟨0, _⟩ => Φ₀ m ρ c
    | ⟨_ + 1, _⟩ => Closed (F := F) c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Closed (F := F) c ∗ (dats m ρ 0 c).owesAt () t₀.succ ∗ stg c cc0_stg0_0 (xstg m ρ c) ∗ stg c cc0_stg1_0 (OUTB m ρ))

theorem recs_of (K : Dev nD × Fin 7 → ℕ) : iprop(Shared m ρ K ∗ levAts L lv) ⊢ Recs m ρ K := by
  unfold Shared Recs
  iintro ⟨⟨H1, H2⟩, H3⟩
  isplitl [H1]; · iexact H1
  isplitl [H2] <;> iassumption

theorem pre_of (c : Dev nD) : bodyPre m ρ c ⊢ iprop(∃ K, Recs m ρ K ∗ Start m ρ c) := by
  unfold bodyPre Φ₀ Given G' Own
  iintro ⟨⟨⟨⟨%K, HS, Hat, Ht⟩, Hc, Hl⟩, Hb, Hr, Hm⟩, Ho, ⟨%d0, %g0, %hg0, Hx⟩, ⟨%d1, %g1, %hg1, Hout⟩⟩
  have hx : g0 = xstg m ρ c := by
    rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc = O₀ c from rfl]
  iexists K
  isplitl [HS Hl]
  · iapply (recs_of m ρ K); isplitl [HS] <;> iassumption
  iapply (start_of m ρ c)
  isplitl [Hat]; · iexact Hat
  isplitl [Ht]; · iexact Ht
  isplitl [Hc]; · iexact Hc
  isplitl [Hb]; · iexact Hb
  isplitl [Hr]; · iexact Hr
  isplitl [Hm]; · iexact Hm
  isplitl [Hout]; · iexists g1; unfold oP; iexact Hout
  isplitl [Hx]; · unfold xP; iexact Hx
  unfold Ow; iexists W; iexact HO

theorem post_of (c : Dev nD) : iprop(Ow c 0 ∗ xP m ρ c ∗ oP c Finset.univ (OUTB m ρ) ∗ Closed (F := F) c) ⊢ bodyPost m ρ c := by
  unfold bodyPost Dat.owesAt Pipeline.owesWithin Ow
  rw [show (dats m ρ 0 c).owed t₀.succ = 0 from rfl]
  iintro ⟨⟨%W, HO⟩, Hx, Ho, HC⟩
  isplitl [HC]; · iexact HC
  isplitl [HO]
  · iexists W
    isplitr; · ipureintro; exact fun _ _ => Or.inl trivial
    iexact HO
  isplitl [Hx]
  · iexists _; isplitr; · (ipureintro; rfl)
    unfold xP; iexact Hx
  iexists _; isplitr; · (ipureintro; rfl)
  unfold oP; iexact Ho

/-- The library's obligation for the body. -/
theorem body_obligation (c : Dev nD) : BodyObligation (dats (F := F) m ρ 0 c) (defs₀ (F := F)) 𝒱₀ () Set.univ := fun t => by
  rw [fin_N t]
  rw [bigSep_W0, bigSep_W0]
  simp only [owns_whole]
  show bodyPre m ρ c ⊢ wpc c (cc0_body (F := F) xM (Memref.isWhole_whole _) oM (Memref.isWhole_whole _) bM (Memref.isWhole_whole _) rM (Memref.isWhole_whole _)
          mM (Memref.isWhole_whole _) cc0_scratch3 cc0_scratch4 cc0_scratch5 cc0_scratch6 cc0_scratch7 cc0_scratch8) (fun _ => bodyPost m ρ c)
  iintro H
  ihave H' := (pre_of m ρ c) $$ H
  icases H' with ⟨%K, #HR, HS⟩
  iapply (body_run m ρ K c fun _ => bodyPost m ρ c)
  isplitr; · iexact HR
  isplitl [HS]; · iexact HS
  iintro HF
  imod (finish m ρ K c) $$ [HF] with H
  · isplitr; · iexact HR
    iexact HF
  imodintro
  iapply (post_of m ρ c)
  iexact H

/-! ## The launch's ghost state -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_inj⟩
def allToks : Finset (GSem nD τ sig × ℕ × Dev nD) := Finset.univ.map ⟨tokOf, tokOf_inj⟩

def u₀ : UU := (initOf (Pipeline.cells cfgs cellOf_inj) (Pipeline.launchToks cfgs cellOf_inj), initOf allCells allToks)

/-- What the launch deals device `c`. -/
def G (c : Dev nD) : sProp 𝕄 :=
  iprop((bigSep Finset.univ fun k : Fin 7 => roundState ER (sch m ρ) (kcell (c, k)) 0)
    ∗ ((bigSep Finset.univ fun k : Fin 7 => atPos ER (kcell (c, k)) 0 ∅ 0) ∗ (bigSep Finset.univ fun k : Fin 7 => reached ER (kcell (c, k)) 0))
    ∗ toks (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (sch m ρ) allCells allToks) $$ HX with ⟨Hst, Hr, Hat, Htok⟩
  imodintro
  ihave Hst' := (Entails.of_eq (hX fun g => roundState ER (sch m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 6 => semVal ((c : Thread nD τ), osem k) 0 := by
  rw [Pipeline.ownSems0_eq_of_list c osem [0, 1, 2, 3, 4, 5] (by decide) (by decide), six]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, seven, six]
  iintro ⟨H, HB⟩
  isplitl [HB]; · iexact HB
  iexact H

/-- One device's cells, opened as invariants. -/
def Opened (c : Dev nD) : sProp 𝕄 :=
  iprop((bigSep Finset.univ fun k : Fin 7 => iprop(∃ κ : ℕ, cellInv ER (sch m ρ) κ (kcell (c, k))))
    ∗ ((bigSep Finset.univ fun k : Fin 7 => atPos ER (kcell (c, k)) 0 ∅ 0) ∗ (bigSep Finset.univ fun k : Fin 7 => reached ER (kcell (c, k)) 0))
    ∗ toks (F := F) c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> Opened m ρ c := by
  unfold G Opened
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sch m ρ) (kcell (c, k)) 0)
      ⊢ (|={Set.univ}=> bigSep Finset.univ fun k => iprop(∃ κ : ℕ, cellInv ER (sch m ρ) κ (kcell (c, k))) : sProp 𝕄) from by
        rw [← bigSep_sep']
        exact (bigSep_mono fun k _ => (Rounds.body_intro ER (sch m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : bigSep Finset.univ (Opened m ρ) ⊢ bigSep Finset.univ (G' m ρ) := by
  unfold Opened
  simp only [bigSep_sep']
  rw [← bigSep_univ_prod (fun ck : Dev nD × Fin 7 => iprop(∃ κ : ℕ, cellInv ER (sch m ρ) κ (kcell ck))),
    ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sch m ρ) κ (kcell ck) : sProp 𝕄))) $$ HI
  icases HK with ⟨%K, #HI⟩
  iapply (bigSep_keep (R := Shared m ρ K) (Φ := Own (F := F)) (Ψ := G' m ρ) fun c _ => by
    unfold G'
    iintro ⟨HS, HO⟩
    iexists K
    isplitl [HS] <;> iassumption)
  isplitr
  · unfold Shared; isplitl; · iexact HI
    iexact HR
  · unfold Own
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's receipts -/

theorem tally_cell (p c : Dev nD) (j k : Fin 7) (n : ℕ) :
    (tallyAt (kcell (p, j)) () n : CellTallies nD τ sig Unit) (kcell (c, k)) () = (if (c, k) = (p, j) then 1 else 0) * n := by
  rw [tallyAt_apply]
  by_cases h : (c, k) = (p, j)
  · rw [if_pos ⟨congrArg kcell h, rfl⟩, if_pos h, Nat.one_mul]
  · rw [if_neg (fun h' => h (kcell_inj h'.1)), if_neg h, Nat.zero_mul]

/-- What `d` owes cell `k` of `c`, counted. -/
theorem owed_cell (d c : Dev nD) (k : Fin 7) :
    O₀ d (kcell (c, k)) () = (∑ p ∈ others d, if (c, k) = (p, 0) then 1 else 0) * 1
      + ((∑ p ∈ others d, if (c, k) = (p, rsK p d) then 1 else 0) * N + (∑ p ∈ others d, if (c, k) = (p, 6) then 1 else 0) * N) := by
  unfold O₀ oSig oRs oAg
  simp only [Pi.add_apply, Finsupp.add_apply, Finset.sum_apply, Finsupp.finset_sum_apply, tally_cell, Finset.sum_mul]

theorem count_bar : ∀ (c : Dev nD) (k : Fin 7), (∑ d : Dev nD, ∑ p ∈ others d, if (c, k) = (p, 0) then 1 else 0) = if k = 0 then 7 else 0 := by
  decide +kernel
theorem count_rs : ∀ (c : Dev nD) (k : Fin 7), (∑ d : Dev nD, ∑ p ∈ others d, if (c, k) = (p, rsK p d) then 1 else 0)
    = if k = 2 then 3 else if k = 3 then 3 else if k = 4 then 1 else 0 := by
  decide +kernel
theorem count_ag : ∀ (c : Dev nD) (k : Fin 7), (∑ d : Dev nD, ∑ p ∈ others d, if (c, k) = (p, 6) then 1 else 0) = if k = 6 then 7 else 0 := by
  decide +kernel

theorem owed_all (c : Dev nD) (k : Fin 7) : ∑ d : Dev nD, O₀ d (kcell (c, k)) () = due k := by
  simp only [owed_cell, Finset.sum_add_distrib, ← Finset.sum_mul, count_bar, count_rs, count_ag]
  fin_cases k <;> simp [due]

theorem launch_cell (c : Dev nD) (k : Fin 7) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same]
  exact owed_all c k

omit [FloatOps F] in
theorem creds (c : Dev nD) :
    (Pipeline.launchCred O₀ c : sProp 𝕄) ⊢ bigSep Finset.univ fun k : Fin 7 => cred (tallyAt (kcell (c, k)) () (due k)) := by
  unfold Pipeline.launchCred
  refine (bigSep_subset (Finset.subset_univ (Finset.univ.map ⟨csem, csem_inj⟩))).trans ?_
  rw [bigSep_map]
  exact bigSep_mono fun k _ => Entails.of_eq (congrArg cred (launch_cell c k))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Given m ρ c ∗ emp) := by
  iintro ⟨-, Hlev, Hcr, -, HG⟩
  ihave Hc := (creds (F := F) c) $$ Hcr
  imodintro
  unfold Given
  isplitl
  · isplitl [HG]; · iexact HG
    isplitl [Hc] <;> iassumption
  · iempintro

theorem phi0_intro (c : Dev nD) :
    iprop(Given m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Closed (F := F) c from rfl, scopedRest0_eq, ownSems0_eq, unscopedSems0_eq]
  unfold Closed
  iintro ⟨Hb, Hr, Hm, Hz, HzB⟩
  isplitl [HzB]; · iexact HzB
  isplitl [Hz]; · iexact Hz
  isplitl [Hb]; · iexact Hb
  isplitl [Hr]; · iexact Hr
  iexact Hm

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_above c _ 0 (by fin_cases w <;> fin_cases s <;> decide) _ (above_O₀ c)
    · show _ ⊢ MayWait _ _ _ 0
      rw [MayWait_zero]; iintro -; iempintro

/-! ## The run -/

/-- What each array of the call holds afterwards. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Over any float values, from any memory with zero counters: every fair execution ends, with every device's arrays as
    `finalA` has them and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := Given m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows are unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce
-- ==== Proof.Value.lean ====
/-
The all-reduce over eight devices: what the result holds. The result array of every device ends as `OUTB`, and read over
the extended reals each of its elements is the sum of the eight devices' elements at that place.
-/
module

public import proofs.«01_k».proof.Proof.Launch
public import Idealize.ShloMosaic.Lib.Pointwise
public import Idealize.ShloMosaic.PureOps.Ideal

@[expose] public section

set_option maxRecDepth 16384

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays, read whole -/

omit [FloatOps F] in
/-- The window's one block of the argument is the whole argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Keeping the rows changes nothing in them. -/
theorem XBF_eq (c : Dev nD) : XBF m ρ c = m ((c : Thread nD τ).loc main_arg0) := by
  unfold XBF k0_pay2 k0_pay1
  rw [xstg_eq]
  exact (shapeCast_self _ _).trans (shapeCast_self _ _)

/-- The one block of the result window, written back at the only point, is the whole result. -/
theorem finalA_o (c : Dev nD) : finalA m ρ c (1 : Fin 2) = OUTB m ρ := by
  have hz : (fun a => (win0_1.index (0 : Fin 1)) a * main_v1.ty.shape.size a) = fun _ => 0 :=
    funext fun a => by fin_cases a <;> decide
  have hr : ∀ f : Buf (Elt F) ((c : Thread nD τ).loc main_v1), (win0_1.blk (0 : Fin 1)).view.read (Elt F) f = f :=
    fun f => Memref.read_access_unit_zero (Elt F) main_v1 hz (fun a => by fin_cases a <;> decide) f
  have hb : (win0_1.blk (0 : Fin 1)).view.read (Elt F) (finalA m ρ c (1 : Fin 2)) = OUTB m ρ := by
    unfold finalA
    rw [show cfg0.N = ((0 : Fin 1) : Fin cfg0.N).val + 1 from rfl, (dats m ρ 0 c).arrAt_succ (1 : Fin 2) (0 : Fin 1),
      if_pos (show (cfg0.win (1 : Fin 2)).flush (0 : Fin 1) = true from by decide)]
    exact View.read_write_univ _ _
  exact (hr _).symm.trans hb

/-! ## The sum -/

/-- Flipping each of the eight bit patterns in turn visits every device once, so adding in that order is the sum. -/
theorem sum_dx {M : Type} [AddCommMonoid M] (c : Dev nD) (f : Dev nD → M) :
    f c + f (dx c 1) + f (dx c 3) + f (dx c 4) + f (dx c 5) + f (dx c 7) + f (dx c 2) + f (dx c 6) = ∑ d : Dev nD, f d := by
  have h : (Finset.univ : Finset (Dev nD)).val
      = ([c, dx c 1, dx c 3, dx c 4, dx c 5, dx c 7, dx c 2, dx c 6] : List (Dev nD)) := by
    revert c; decide +kernel
  show _ = (Multiset.map f (Finset.univ : Finset (Dev nD)).val).sum
  rw [h, Multiset.map_coe, Multiset.sum_coe]
  simp only [List.map_cons, List.map_nil, List.sum_cons, List.sum_nil, add_zero, add_assoc]

section AtIdeal

variable (mi : (ℓ : Loc nD τ sig) → Buf (Elt Ideal) ℓ)

/-- Device `d`'s rows, as extended reals. -/
def rowsOf (d : Dev nD) : S256x256.Idx → EReal := mi ((d : Thread nD τ).loc main_arg0)

/-- Over the extended reals, device `c`'s reduced chunk is the sum over the devices of their chunks `c`. -/
theorem MINE_ideal (c : Dev nD) (j : S32x256.Idx) :
    MINE mi ρ c j = ∑ d : Dev nD, rowsOf mi d (pl c j) := by
  rw [← sum_dx c]
  unfold MINE k0_pay6 acc2 k0_pay5 acc1 k0_pay4
  dsimp only
  rw [shapeCast_self]
  simp only [part_RSB, XBF_eq]
  rfl

/-- Over the extended reals, the result is the sum over the devices of their rows. -/
theorem OUTB_ideal (i : S256x256.Idx) :
    OUTB mi ρ i = ∑ d : Dev nD, rowsOf mi d i := by
  show MINE mi ρ (blkOf i) (inn i) = _
  rw [MINE_ideal, pl_inn]

end AtIdeal

end Cert.AllReduce
-- ==== Proof.Claims.lean ====
/-
The claims: the three frames, and the kernel's result over the extended reals against the reference's.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Value
public import Idealize.ShloMosaic.Lib.IdealHost
public import Idealize.ShloMosaic.PureOps.Ideal.Laws

@[expose] public section

set_option maxRecDepth 65536

noncomputable section

namespace Cert.AllReduce

open Idealize.ShloMosaic Idealize.ShloMosaic.TcCoe Idealize.SL.Sem

/-! ## The frames -/

/-- Over any float values: the run ends with the arguments unchanged and every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (finalA_x m ρ c), h.2⟩) (run_main m ρ)

/-- The two programs have one text, so one table of bodies. -/
theorem bodies_eq {F : FTy → Type} [FloatOps F] : Cert.KernelIdeal.defs₀ (F := F) = Cert.Kernel.defs₀ := by
  unfold Cert.KernelIdeal.defs₀ Cert.Kernel.defs₀
  refine congrArg Defs.onTc (funext fun k => funext fun a => ?_)
  match k, a with
  | ⟨0, _⟩, (t, s) => rfl
  | ⟨_ + 1, h⟩, _ => exact absurd h (Nat.not_lt.2 (Nat.le_add_left _ _))

theorem defs_eq {F : FTy → Type} [FloatOps F] : Cert.KernelIdeal.defs (F := F) = Cert.Kernel.defs :=
  congrArg (Pipeline.defs Cert.KernelIdeal.pcfgs) bodies_eq

/-- The kernel as it prints. -/
theorem frame_kernel : Cert.quiescent_Kernel := by
  intro m ρ _
  rw [← defs_eq]
  exact frame_any (F := Bits) m ρ

/-- The same text read over the extended reals. -/
theorem frame_ideal : Cert.quiescent_KernelIdeal := fun m ρ _ => frame_any (F := Ideal) m ρ

/-- The reference declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-! ## The reference's value -/

/-- What the reference computes of the whole argument. -/
def refOut (x : FVec Ideal Cert.ReferenceIdeal.S2048x256 .bf16) : FVec Ideal Cert.ReferenceIdeal.S256x256 .bf16 :=
  truncf .bf16 (Host.reduceAdd (extf .f32 (shapeCast Cert.ReferenceIdeal.S8x256x256 x
      Cert.ReferenceIdeal.Gen.shapeCasts_S2048x256_S8x256x256) Cert.ReferenceIdeal.Gen.bitsLt_bf16_f32)
    (constant Cert.ReferenceIdeal.S_ .f32 0x00000000#32) Cert.ReferenceIdeal.Gen.reducesTo_S8x256x256_S256x256_d0
      Cert.ReferenceIdeal.Gen.h_S_) Cert.ReferenceIdeal.Gen.bitsLt_bf16_f32

/-- Block `d` of the rows, as extended reals. -/
def blockOf (x : FVec Ideal Cert.ReferenceIdeal.S2048x256 .bf16) (d : Fin 8) : Cert.ReferenceIdeal.S256x256.Idx → EReal :=
  Layout.block ⟨2, ![256, 256]⟩ ⟨2, ![2048, 256]⟩ 0 8 d x

/-- Element by element: the sum over the eight blocks of rows. -/
theorem refOut_apply (x : FVec Ideal Cert.ReferenceIdeal.S2048x256 .bf16) (i : Cert.ReferenceIdeal.S256x256.Idx) :
    refOut x i = ∑ d : Fin 8, blockOf x d i := by
  unfold refOut
  pointwise
  refine Finset.sum_congr rfl fun d _ => ?_
  show _ = x ((by decide : Layout.Tiles ⟨2, ![256, 256]⟩ ⟨2, ![2048, 256]⟩ 0 8).idx d i)
  refine congrArg x (funext fun a => Fin.ext ?_)
  fin_cases a <;> rfl

/-! ## The result against the reference -/

theorem result_eq : Cert.algebraic_KernelIdeal_ReferenceIdeal := by
  intro m g m' g' _ hagree
  refine ⟨refOut (m' (((0 : Dev Cert.ReferenceIdeal.nD).tc : Thread _ Cert.ReferenceIdeal.τ).loc Cert.ReferenceIdeal.main_arg0)), ?_, ?_⟩
  · refine (θ_run Cert.KernelIdeal.defs _ _).mono
      (fun _ h c => ⟨(h.1 c (1 : Fin 2)).trans ((finalA_o m g c).trans ?_), (h.1 c (0 : Fin 2)).trans (finalA_x m g c)⟩)
      (run_main (F := Ideal) m g)
    funext i
    rw [OUTB_ideal, refOut_apply]
    exact Finset.sum_congr rfl fun d _ => congrFun (hagree d) i
  · exact (θ_run Cert.ReferenceIdeal.defs _ _).mono (fun _ h => h 0) (Cert.ReferenceIdeal.Value.run (F := Ideal) m' g')

end Cert.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllReduce.frame_kernel, Cert.AllReduce.frame_ideal, Cert.AllReduce.frame_reference, trivial, Cert.AllReduce.result_eq⟩

end Cert.Proof

end
